-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sm_log2" .f32 0x3E0293EE#32 (((Real.sqrt 128)⁻¹ * (Real.log 2)⁻¹ : ℝ) : EReal)
  ∧ IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x2048 : Shape := ⟨3, ![8, 8192, 2048]⟩
abbrev S8x8192x16 : Shape := ⟨3, ![8, 8192, 16]⟩
abbrev S8x8192x256 : Shape := ⟨3, ![8, 8192, 256]⟩
abbrev S8x8192x2 : Shape := ⟨3, ![8, 8192, 2]⟩
abbrev S8x16x8192 : Shape := ⟨3, ![8, 16, 8192]⟩
abbrev S8x2x8192 : Shape := ⟨3, ![8, 2, 8192]⟩
abbrev S8x1x8192 : Shape := ⟨3, ![8, 1, 8192]⟩
abbrev S1x256x2048 : Shape := ⟨3, ![1, 256, 2048]⟩
abbrev S1x16x256 : Shape := ⟨3, ![1, 16, 256]⟩
abbrev S1x8192x256 : Shape := ⟨3, ![1, 8192, 256]⟩
abbrev S1x2x8192 : Shape := ⟨3, ![1, 2, 8192]⟩
abbrev S1x1x256 : Shape := ⟨3, ![1, 1, 256]⟩
abbrev S2x128x8192 : Shape := ⟨3, ![2, 128, 8192]⟩
abbrev S2x8192x128 : Shape := ⟨3, ![2, 8192, 128]⟩
abbrev S256x2048 : Shape := ⟨2, ![256, 2048]⟩
abbrev S8192x256 : Shape := ⟨2, ![8192, 256]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S256x256 : Shape := ⟨2, ![256, 256]⟩
abbrev S1x256x128 : Shape := ⟨3, ![1, 256, 128]⟩
abbrev S256x128 : Shape := ⟨2, ![256, 128]⟩
abbrev S1x256 : Shape := ⟨2, ![1, 256]⟩
abbrev S256 : Shape := ⟨1, ![256]⟩
abbrev S128x256 : Shape := ⟨2, ![128, 256]⟩
abbrev S1x128x256 : Shape := ⟨3, ![1, 128, 256]⟩
abbrev S256x1 : Shape := ⟨2, ![256, 1]⟩
abbrev S256x247 : Shape := ⟨2, ![256, 247]⟩

abbrev nBuf : Space → Nat
  | .hbm => 11
  | .vmem => 20
  | .smem => 0
  | _ => 0

abbrev bufTy : (tb : Table) → Fin (tcTables nBuf tb) → BufTy
  | .hbm, ⟨0, _⟩ => ⟨S8x8192x2048, .fp8e4m3⟩
  | .hbm, ⟨1, _⟩ => ⟨S8x8192x16, .f32⟩
  | .hbm, ⟨2, _⟩ => ⟨S8x8192x256, .fp8e4m3⟩
  | .hbm, ⟨3, _⟩ => ⟨S8x8192x2, .f32⟩
  | .hbm, ⟨4, _⟩ => ⟨S8x8192x256, .fp8e4m3⟩
  | .hbm, ⟨5, _⟩ => ⟨S8x8192x2, .f32⟩
  | .hbm, ⟨6, _⟩ => ⟨S8x16x8192, .f32⟩
  | .hbm, ⟨7, _⟩ => ⟨S8x2x8192, .f32⟩
  | .hbm, ⟨8, _⟩ => ⟨S8x2x8192, .f32⟩
  | .hbm, ⟨9, _⟩ => ⟨S8x8192x2048, .fp8e4m3⟩
  | .hbm, ⟨10, _⟩ => ⟨S8x1x8192, .f32⟩
  | .local _ .vmem, ⟨0, _⟩ => ⟨S1x256x2048, .fp8e4m3⟩
  | .local _ .vmem, ⟨1, _⟩ => ⟨S1x256x2048, .fp8e4m3⟩
  | .local _ .vmem, ⟨2, _⟩ => ⟨S1x16x256, .f32⟩
  | .local _ .vmem, ⟨3, _⟩ => ⟨S1x16x256, .f32⟩
  | .local _ .vmem, ⟨4, _⟩ => ⟨S1x8192x256, .fp8e4m3⟩
  | .local _ .vmem, ⟨5, _⟩ => ⟨S1x8192x256, .fp8e4m3⟩
  | .local _ .vmem, ⟨6, _⟩ => ⟨S1x2x8192, .f32⟩
  | .local _ .vmem, ⟨7, _⟩ => ⟨S1x2x8192, .f32⟩
  | .local _ .vmem, ⟨8, _⟩ => ⟨S1x8192x256, .fp8e4m3⟩
  | .local _ .vmem, ⟨9, _⟩ => ⟨S1x8192x256, .fp8e4m3⟩
  | .local _ .vmem, ⟨10, _⟩ => ⟨S1x2x8192, .f32⟩
  | .local _ .vmem, ⟨11, _⟩ => ⟨S1x2x8192, .f32⟩
  | .local _ .vmem, ⟨12, _⟩ => ⟨S1x256x2048, .fp8e4m3⟩
  | .local _ .vmem, ⟨13, _⟩ => ⟨S1x256x2048, .fp8e4m3⟩
  | .local _ .vmem, ⟨14, _⟩ => ⟨S1x1x256, .f32⟩
  | .local _ .vmem, ⟨15, _⟩ => ⟨S1x1x256, .f32⟩
  | .local _ .vmem, ⟨16, _⟩ => ⟨S2x128x8192, .bf16⟩
  | .local _ .vmem, ⟨17, _⟩ => ⟨S2x8192x128, .f32⟩
  | .local _ .vmem, ⟨18, _⟩ => ⟨S256x2048, .f32⟩
  | .local _ .vmem, ⟨19, _⟩ => ⟨S8192x256, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c64_i32 : BitVec 32 := 64#32
  let v58 : BitVec 32 := Scalar.addi c0_i32_26 c64_i32
  let c1_i32_27 : BitVec 32 := 1#32
  ⟨c0_i32_26, v58, c1_i32_27⟩
def k0_off1 (k0_t1 : Fin k0_t1_loop.trips) : Fin 3 → Nat :=
  let c0_29 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v60 : Index := Scalar.indexCast v59
  let c0_30 : Index := 0#32
  ![0, v60.toNat, 0]
def k0_off2 (k0_t1 : Fin k0_t1_loop.trips) : Fin 3 → Nat :=
  let c0_31 : Index := 0#32
  let c0_32 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v65 : Index := Scalar.indexCast v59
  ![0, 0, v65.toNat]
def k0_off3 (k0_t1 : Fin k0_t1_loop.trips) : Fin 3 → Nat :=
  let c0_33 : Index := 0#32
  let c0_34 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v71 : Index := Scalar.indexCast v59
  ![0, 0, v71.toNat]
def k0_off4 (k0_t1 : Fin k0_t1_loop.trips) : Fin 3 → Nat :=
  let c0_37 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v81 : Index := Scalar.indexCast v59
  let c0_38 : Index := 0#32
  ![0, v81.toNat, 0]
def k0_off5 (k0_t1 : Fin k0_t1_loop.trips) : Fin 3 → Nat :=
  let c0_39 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v85 : Index := Scalar.indexCast v59
  let c128 : Index := 128#32
  ![0, v85.toNat, 128]
def k0_off6 (k0_t1 : Fin k0_t1_loop.trips) : Fin 3 → Nat :=
  let c0_40 : Index := 0#32
  let c1 : Index := 1#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v90 : Index := Scalar.indexCast v59
  ![0, 1, v90.toNat]
def k0_off7 (k0_t1 : Fin k0_t1_loop.trips) : Fin 3 → Nat :=
  let c1_41 : Index := 1#32
  let c0_42 : Index := 0#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v96 : Index := Scalar.indexCast v59
  ![1, 0, v96.toNat]
def k0_off8 (k0_t1 : Fin k0_t1_loop.trips) : Fin 3 → Nat :=
  let c1_45 : Index := 1#32
  let c0_i32_26 : BitVec 32 := 0#32
  let c1_i32_27 : BitVec 32 := 1#32
  let arg14 : BitVec 32 := Scf.iv c0_i32_26 c1_i32_27 k0_t1
  let c128_i32 : BitVec 32 := 128#32
  let v59 : BitVec 32 := Scalar.muli arg14 c128_i32
  let v106 : Index := Scalar.indexCast v59
  let c0_46 : Index := 0#32
  ![1, v106.toNat, 0]
@[reducible] def k0_t2_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k0_mult1 (k0_t2 : Fin k0_t2_loop.trips) : BitVec 32 :=
  let c0_i32_26 : BitVec 32 := 0#32
  let c0_i32_1 : BitVec 32 := 0#32
  let c1_i32 : BitVec 32 := 1#32
  let arg14 : BitVec 32 := Scf.iv c0_i32_1 c1_i32 k0_t2
  let v58 : BitVec 32 := Scalar.addi c0_i32_26 arg14
  let c128_i32 : BitVec 32 := 128#32
  let v59 : BitVec 32 := Scalar.muli v58 c128_i32
  v59
def k0_off9 (k0_t2 : Fin k0_t2_loop.trips) : Fin 3 → Nat :=
  let c0_27 : Index := 0#32
  let c0_28 : Index := 0#32
  let c0_i32_26 : BitVec 32 := 0#32
  let c0_i32_1 : BitVec 32 := 0#32
  let c1_i32 : BitVec 32 := 1#32
  let arg14 : BitVec 32 := Scf.iv c0_i32_1 c1_i32 k0_t2
  let v58 : BitVec 32 := Scalar.addi c0_i32_26 arg14
  let c128_i32 : BitVec 32 := 128#32
  let v59 : BitVec 32 := Scalar.muli v58 c128_i32
  let v60 : BitVec 32 := v59
  let v61 : Index := Scalar.indexCast v60
  ![0, 0, v61.toNat]
def k0_off10 (k0_t2 : Fin k0_t2_loop.trips) : Fin 3 → Nat :=
  let c0_29 : Index := 0#32
  let c0_i32_26 : BitVec 32 := 0#32
  let c0_i32_1 : BitVec 32 := 0#32
  let c1_i32 : BitVec 32 := 1#32
  let arg14 : BitVec 32 := Scf.iv c0_i32_1 c1_i32 k0_t2
  let v58 : BitVec 32 := Scalar.addi c0_i32_26 arg14
  let v64 : Index := Scalar.indexCast v58
  let c0_30 : Index := 0#32
  ![0, v64.toNat, 0]
@[reducible] def k0_t3_loop (i : grid0.Coords) : Scf.Loop 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_35 : BitVec 32 := 1#32
  ⟨c0_i32_33, v74, c1_i32_35⟩
def k0_mult2 (i : grid0.Coords) (k0_t3 : Fin (k0_t3_loop i).trips) : BitVec 32 :=
  let c0_i32_33 : BitVec 32 := 0#32
  let c1_i32_35 : BitVec 32 := 1#32
  let arg15 : BitVec 32 := Scf.iv c0_i32_33 c1_i32_35 k0_t3
  let c256_i32_59 : BitVec 32 := 256#32
  let v125 : BitVec 32 := Scalar.muli arg15 c256_i32_59
  v125
def k0_off11 (i : grid0.Coords) (k0_t3 : Fin (k0_t3_loop i).trips) : Fin 3 → Nat :=
  let c0_60 : Index := 0#32
  let c0_i32_33 : BitVec 32 := 0#32
  let c1_i32_35 : BitVec 32 := 1#32
  let arg15 : BitVec 32 := Scf.iv c0_i32_33 c1_i32_35 k0_t3
  let c256_i32_59 : BitVec 32 := 256#32
  let v125 : BitVec 32 := Scalar.muli arg15 c256_i32_59
  let v126 : BitVec 32 := v125
  let v127 : Index := Scalar.indexCast v126
  let c0_61 : Index := 0#32
  ![0, v127.toNat, 0]
def k0_off12 (i : grid0.Coords) (k0_t3 : Fin (k0_t3_loop i).trips) : Fin 3 → Nat :=
  let c0_63 : Index := 0#32
  let c0_i32_33 : BitVec 32 := 0#32
  let c1_i32_35 : BitVec 32 := 1#32
  let arg15 : BitVec 32 := Scf.iv c0_i32_33 c1_i32_35 k0_t3
  let c256_i32_59 : BitVec 32 := 256#32
  let v125 : BitVec 32 := Scalar.muli arg15 c256_i32_59
  let v126 : BitVec 32 := v125
  let v131 : Index := Scalar.indexCast v126
  let c0_64 : Index := 0#32
  ![0, v131.toNat, 0]
def k0_off13 (i : grid0.Coords) (k0_t3 : Fin (k0_t3_loop i).trips) : Fin 2 → Nat :=
  let c0_i32_33 : BitVec 32 := 0#32
  let c1_i32_35 : BitVec 32 := 1#32
  let arg15 : BitVec 32 := Scf.iv c0_i32_33 c1_i32_35 k0_t3
  let c256_i32_59 : BitVec 32 := 256#32
  let v125 : BitVec 32 := Scalar.muli arg15 c256_i32_59
  let v126 : BitVec 32 := v125
  let v138 : Index := Scalar.indexCast v126
  let c0_65 : Index := 0#32
  ![v138.toNat, 0]
@[reducible] def k0_t4_loop (i : grid0.Coords) : Scf.Loop 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let v71 : BitVec 32 := Scalar.addi c0_i32_33 v70
  let c1_i32_36 : BitVec 32 := 1#32
  ⟨v74, v71, c1_i32_36⟩
def k0_mult3 (i : grid0.Coords) (k0_t4 : Fin (k0_t4_loop i).trips) : BitVec 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t4
  let c256_i32_59 : BitVec 32 := 256#32
  let v125 : BitVec 32 := Scalar.muli arg15 c256_i32_59
  v125
def k0_off14 (i : grid0.Coords) (k0_t4 : Fin (k0_t4_loop i).trips) : Fin 3 → Nat :=
  let c0_60 : Index := 0#32
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t4
  let c256_i32_59 : BitVec 32 := 256#32
  let v125 : BitVec 32 := Scalar.muli arg15 c256_i32_59
  let v126 : BitVec 32 := v125
  let v127 : Index := Scalar.indexCast v126
  let c0_61 : Index := 0#32
  ![0, v127.toNat, 0]
def k0_off15 (i : grid0.Coords) (k0_t4 : Fin (k0_t4_loop i).trips) : Fin 3 → Nat :=
  let c0_63 : Index := 0#32
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t4
  let c256_i32_59 : BitVec 32 := 256#32
  let v125 : BitVec 32 := Scalar.muli arg15 c256_i32_59
  let v126 : BitVec 32 := v125
  let v131 : Index := Scalar.indexCast v126
  let c0_64 : Index := 0#32
  ![0, v131.toNat, 0]
def k0_off16 (i : grid0.Coords) (k0_t4 : Fin (k0_t4_loop i).trips) : Fin 2 → Nat :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t4
  let c256_i32_59 : BitVec 32 := 256#32
  let v125 : BitVec 32 := Scalar.muli arg15 c256_i32_59
  let v126 : BitVec 32 := v125
  let v138 : Index := Scalar.indexCast v126
  let c0_65 : Index := 0#32
  ![v138.toNat, 0]
def k0_mult4 (i : grid0.Coords) : BitVec 32 :=
  let arg1 : BitVec 32 := BitVec.ofNat 32 (i 1).val
  let c256_i32 : BitVec 32 := 256#32
  let v77 : BitVec 32 := Scalar.muli arg1 c256_i32
  v77
def k0_off17 (i : grid0.Coords) : Fin 3 → Nat :=
  let c0_37 : Index := 0#32
  let arg1 : BitVec 32 := BitVec.ofNat 32 (i 1).val
  let c256_i32 : BitVec 32 := 256#32
  let v77 : BitVec 32 := Scalar.muli arg1 c256_i32
  let v78 : BitVec 32 := v77
  let v79 : Index := Scalar.indexCast v78
  let c0_38 : Index := 0#32
  ![0, v79.toNat, 0]
def k0_off18 (i : grid0.Coords) : Fin 3 → Nat :=
  let c0_40 : Index := 0#32
  let arg1 : BitVec 32 := BitVec.ofNat 32 (i 1).val
  let c256_i32 : BitVec 32 := 256#32
  let v77 : BitVec 32 := Scalar.muli arg1 c256_i32
  let v78 : BitVec 32 := v77
  let v83 : Index := Scalar.indexCast v78
  let c0_41 : Index := 0#32
  ![0, v83.toNat, 0]
def k0_off19 (i : grid0.Coords) : Fin 2 → Nat :=
  let arg1 : BitVec 32 := BitVec.ofNat 32 (i 1).val
  let c256_i32 : BitVec 32 := 256#32
  let v77 : BitVec 32 := Scalar.muli arg1 c256_i32
  let v78 : BitVec 32 := v77
  let v93 : Index := Scalar.indexCast v78
  let c0_43 : Index := 0#32
  ![v93.toNat, 0]
@[reducible] def k0_t5_loop (i : grid0.Coords) : Scf.Loop 32 :=
  let c0_i32_47 : BitVec 32 := 0#32
  let arg1 : BitVec 32 := BitVec.ofNat 32 (i 1).val
  let c1_i32_45 : BitVec 32 := 1#32
  let v100 : BitVec 32 := Scalar.addi arg1 c1_i32_45
  let v102 : BitVec 32 := Scalar.subi v100 c0_i32_47
  let c1_i32_48 : BitVec 32 := 1#32
  let v104 : BitVec 32 := Scalar.divsi v102 c1_i32_48
  let v105 : BitVec 32 := Scalar.muli v104 c1_i32_48
  let v106 : BitVec 32 := Scalar.addi c0_i32_47 v105
  let c1_i32_49 : BitVec 32 := 1#32
  ⟨c0_i32_47, v106, c1_i32_49⟩
def k0_mult5 (i : grid0.Coords) (k0_t5 : Fin (k0_t5_loop i).trips) : BitVec 32 :=
  let c0_i32_47 : BitVec 32 := 0#32
  let c1_i32_49 : BitVec 32 := 1#32
  let arg15 : BitVec 32 := Scf.iv c0_i32_47 c1_i32_49 k0_t5
  let c256_i32_59 : BitVec 32 := 256#32
  let v125 : BitVec 32 := Scalar.muli arg15 c256_i32_59
  v125
def k0_off20 (i : grid0.Coords) (k0_t5 : Fin (k0_t5_loop i).trips) : Fin 2 → Nat :=
  let c0_i32_47 : BitVec 32 := 0#32
  let c1_i32_49 : BitVec 32 := 1#32
  let arg15 : BitVec 32 := Scf.iv c0_i32_47 c1_i32_49 k0_t5
  let c256_i32_59 : BitVec 32 := 256#32
  let v125 : BitVec 32 := Scalar.muli arg15 c256_i32_59
  let v126 : BitVec 32 := v125
  let v127 : Index := Scalar.indexCast v126
  let c0_60 : Index := 0#32
  ![v127.toNat, 0]
@[reducible] def k0_t6_loop (i : grid0.Coords) : Scf.Loop 32 :=
  let c0_i32_47 : BitVec 32 := 0#32
  let arg1 : BitVec 32 := BitVec.ofNat 32 (i 1).val
  let c1_i32_45 : BitVec 32 := 1#32
  let v100 : BitVec 32 := Scalar.addi arg1 c1_i32_45
  let v102 : BitVec 32 := Scalar.subi v100 c0_i32_47
  let c1_i32_48 : BitVec 32 := 1#32
  let v104 : BitVec 32 := Scalar.divsi v102 c1_i32_48
  let v105 : BitVec 32 := Scalar.muli v104 c1_i32_48
  let v106 : BitVec 32 := Scalar.addi c0_i32_47 v105
  let v103 : BitVec 32 := Scalar.addi c0_i32_47 v102
  let c1_i32_50 : BitVec 32 := 1#32
  ⟨v106, v103, c1_i32_50⟩
def k0_mult6 (i : grid0.Coords) (k0_t6 : Fin (k0_t6_loop i).trips) : BitVec 32 :=
  let c0_i32_47 : BitVec 32 := 0#32
  let arg1 : BitVec 32 := BitVec.ofNat 32 (i 1).val
  let c1_i32_45 : BitVec 32 := 1#32
  let v100 : BitVec 32 := Scalar.addi arg1 c1_i32_45
  let v102 : BitVec 32 := Scalar.subi v100 c0_i32_47
  let c1_i32_48 : BitVec 32 := 1#32
  let v104 : BitVec 32 := Scalar.divsi v102 c1_i32_48
  let v105 : BitVec 32 := Scalar.muli v104 c1_i32_48
  let v106 : BitVec 32 := Scalar.addi c0_i32_47 v105
  let c1_i32_50 : BitVec 32 := 1#32
  let arg15 : BitVec 32 := Scf.iv v106 c1_i32_50 k0_t6
  let c256_i32_59 : BitVec 32 := 256#32
  let v125 : BitVec 32 := Scalar.muli arg15 c256_i32_59
  v125
def k0_off21 (i : grid0.Coords) (k0_t6 : Fin (k0_t6_loop i).trips) : Fin 2 → Nat :=
  let c0_i32_47 : BitVec 32 := 0#32
  let arg1 : BitVec 32 := BitVec.ofNat 32 (i 1).val
  let c1_i32_45 : BitVec 32 := 1#32
  let v100 : BitVec 32 := Scalar.addi arg1 c1_i32_45
  let v102 : BitVec 32 := Scalar.subi v100 c0_i32_47
  let c1_i32_48 : BitVec 32 := 1#32
  let v104 : BitVec 32 := Scalar.divsi v102 c1_i32_48
  let v105 : BitVec 32 := Scalar.muli v104 c1_i32_48
  let v106 : BitVec 32 := Scalar.addi c0_i32_47 v105
  let c1_i32_50 : BitVec 32 := 1#32
  let arg15 : BitVec 32 := Scf.iv v106 c1_i32_50 k0_t6
  let c256_i32_59 : BitVec 32 := 256#32
  let v125 : BitVec 32 := Scalar.muli arg15 c256_i32_59
  let v126 : BitVec 32 := v125
  let v127 : Index := Scalar.indexCast v126
  let c0_60 : Index := 0#32
  ![v127.toNat, 0]
@[reducible] def k0_t7_loop (i : grid0.Coords) : Scf.Loop 32 :=
  let c0_i32_54 : BitVec 32 := 0#32
  let arg1 : BitVec 32 := BitVec.ofNat 32 (i 1).val
  let c1_i32_51 : BitVec 32 := 1#32
  let v109 : BitVec 32 := Scalar.addi arg1 c1_i32_51
  let v113 : BitVec 32 := Scalar.subi v109 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_56 : BitVec 32 := 1#32
  ⟨c0_i32_54, v117, c1_i32_56⟩
def k0_mult7 (i : grid0.Coords) (k0_t7 : Fin (k0_t7_loop i).trips) : BitVec 32 :=
  let c0_i32_54 : BitVec 32 := 0#32
  let c1_i32_56 : BitVec 32 := 1#32
  let arg15 : BitVec 32 := Scf.iv c0_i32_54 c1_i32_56 k0_t7
  let c256_i32_59 : BitVec 32 := 256#32
  let v125 : BitVec 32 := Scalar.muli arg15 c256_i32_59
  v125
def k0_off22 (i : grid0.Coords) (k0_t7 : Fin (k0_t7_loop i).trips) : Fin 2 → Nat :=
  let c0_i32_54 : BitVec 32 := 0#32
  let c1_i32_56 : BitVec 32 := 1#32
  let arg15 : BitVec 32 := Scf.iv c0_i32_54 c1_i32_56 k0_t7
  let c256_i32_59 : BitVec 32 := 256#32
  let v125 : BitVec 32 := Scalar.muli arg15 c256_i32_59
  let v126 : BitVec 32 := v125
  let v127 : Index := Scalar.indexCast v126
  let c0_60 : Index := 0#32
  ![v127.toNat, 0]
def k0_off23 (i : grid0.Coords) (k0_t7 : Fin (k0_t7_loop i).trips) : Fin 3 → Nat :=
  let c0_61 : Index := 0#32
  let c0_62 : Index := 0#32
  let c0_i32_54 : BitVec 32 := 0#32
  let c1_i32_56 : BitVec 32 := 1#32
  let arg15 : BitVec 32 := Scf.iv c0_i32_54 c1_i32_56 k0_t7
  let c256_i32_59 : BitVec 32 := 256#32
  let v125 : BitVec 32 := Scalar.muli arg15 c256_i32_59
  let v126 : BitVec 32 := v125
  let v132 : Index := Scalar.indexCast v126
  ![0, 0, v132.toNat]
@[reducible] def k0_t8_loop (i : grid0.Coords) : Scf.Loop 32 :=
  let c0_i32_54 : BitVec 32 := 0#32
  let arg1 : BitVec 32 := BitVec.ofNat 32 (i 1).val
  let c1_i32_51 : BitVec 32 := 1#32
  let v109 : BitVec 32 := Scalar.addi arg1 c1_i32_51
  let v113 : BitVec 32 := Scalar.subi v109 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let v114 : BitVec 32 := Scalar.addi c0_i32_54 v113
  let c1_i32_57 : BitVec 32 := 1#32
  ⟨v117, v114, c1_i32_57⟩
def k0_mult8 (i : grid0.Coords) (k0_t8 : Fin (k0_t8_loop i).trips) : BitVec 32 :=
  let c0_i32_54 : BitVec 32 := 0#32
  let arg1 : BitVec 32 := BitVec.ofNat 32 (i 1).val
  let c1_i32_51 : BitVec 32 := 1#32
  let v109 : BitVec 32 := Scalar.addi arg1 c1_i32_51
  let v113 : BitVec 32 := Scalar.subi v109 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg15 : BitVec 32 := Scf.iv v117 c1_i32_57 k0_t8
  let c256_i32_59 : BitVec 32 := 256#32
  let v125 : BitVec 32 := Scalar.muli arg15 c256_i32_59
  v125
def k0_off24 (i : grid0.Coords) (k0_t8 : Fin (k0_t8_loop i).trips) : Fin 2 → Nat :=
  let c0_i32_54 : BitVec 32 := 0#32
  let arg1 : BitVec 32 := BitVec.ofNat 32 (i 1).val
  let c1_i32_51 : BitVec 32 := 1#32
  let v109 : BitVec 32 := Scalar.addi arg1 c1_i32_51
  let v113 : BitVec 32 := Scalar.subi v109 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg15 : BitVec 32 := Scf.iv v117 c1_i32_57 k0_t8
  let c256_i32_59 : BitVec 32 := 256#32
  let v125 : BitVec 32 := Scalar.muli arg15 c256_i32_59
  let v126 : BitVec 32 := v125
  let v127 : Index := Scalar.indexCast v126
  let c0_60 : Index := 0#32
  ![v127.toNat, 0]
def k0_off25 (i : grid0.Coords) (k0_t8 : Fin (k0_t8_loop i).trips) : Fin 3 → Nat :=
  let c0_61 : Index := 0#32
  let c0_62 : Index := 0#32
  let c0_i32_54 : BitVec 32 := 0#32
  let arg1 : BitVec 32 := BitVec.ofNat 32 (i 1).val
  let c1_i32_51 : BitVec 32 := 1#32
  let v109 : BitVec 32 := Scalar.addi arg1 c1_i32_51
  let v113 : BitVec 32 := Scalar.subi v109 c0_i32_54
  let c1_i32_55 : BitVec 32 := 1#32
  let v115 : BitVec 32 := Scalar.divsi v113 c1_i32_55
  let v116 : BitVec 32 := Scalar.muli v115 c1_i32_55
  let v117 : BitVec 32 := Scalar.addi c0_i32_54 v116
  let c1_i32_57 : BitVec 32 := 1#32
  let arg15 : BitVec 32 := Scf.iv v117 c1_i32_57 k0_t8
  let c256_i32_59 : BitVec 32 := 256#32
  let v125 : BitVec 32 := Scalar.muli arg15 c256_i32_59
  let v126 : BitVec 32 := v125
  let v132 : Index := Scalar.indexCast v126
  ![0, 0, v132.toNat]
def k0_off26 (k0_t2 : Fin k0_t2_loop.trips) : Fin 2 → Nat :=
  let c0_58 : Index := 0#32
  let c0_i32_26 : BitVec 32 := 0#32
  let c0_i32_1 : BitVec 32 := 0#32
  let c1_i32 : BitVec 32 := 1#32
  let arg14 : BitVec 32 := Scf.iv c0_i32_1 c1_i32 k0_t2
  let v58 : BitVec 32 := Scalar.addi c0_i32_26 arg14
  let c128_i32 : BitVec 32 := 128#32
  let v59 : BitVec 32 := Scalar.muli v58 c128_i32
  let v60 : BitVec 32 := v59
  let v121 : Index := Scalar.indexCast v60
  ![0, v121.toNat]
@[reducible] def k0_t9_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k0_mult9 (k0_t9 : Fin k0_t9_loop.trips) : BitVec 32 :=
  let c8_i32_26 : BitVec 32 := 8#32
  let c0_i32_3 : BitVec 32 := 0#32
  let c1_i32_5 : BitVec 32 := 1#32
  let arg14 : BitVec 32 := Scf.iv c0_i32_3 c1_i32_5 k0_t9
  let v58 : BitVec 32 := Scalar.addi c8_i32_26 arg14
  let c128_i32 : BitVec 32 := 128#32
  let v59 : BitVec 32 := Scalar.muli v58 c128_i32
  v59
def k0_off27 (k0_t9 : Fin k0_t9_loop.trips) : Fin 3 → Nat :=
  let c0_27 : Index := 0#32
  let c0_28 : Index := 0#32
  let c8_i32_26 : BitVec 32 := 8#32
  let c0_i32_3 : BitVec 32 := 0#32
  let c1_i32_5 : BitVec 32 := 1#32
  let arg14 : BitVec 32 := Scf.iv c0_i32_3 c1_i32_5 k0_t9
  let v58 : BitVec 32 := Scalar.addi c8_i32_26 arg14
  let c128_i32 : BitVec 32 := 128#32
  let v59 : BitVec 32 := Scalar.muli v58 c128_i32
  let v60 : BitVec 32 := v59
  let v61 : Index := Scalar.indexCast v60
  ![0, 0, v61.toNat]
def k0_off28 (k0_t9 : Fin k0_t9_loop.trips) : Fin 3 → Nat :=
  let c0_29 : Index := 0#32
  let c8_i32_26 : BitVec 32 := 8#32
  let c0_i32_3 : BitVec 32 := 0#32
  let c1_i32_5 : BitVec 32 := 1#32
  let arg14 : BitVec 32 := Scf.iv c0_i32_3 c1_i32_5 k0_t9
  let v58 : BitVec 32 := Scalar.addi c8_i32_26 arg14
  let v64 : Index := Scalar.indexCast v58
  let c0_30 : Index := 0#32
  ![0, v64.toNat, 0]
@[reducible] def k0_t10_loop (i : grid0.Coords) : Scf.Loop 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_35 : BitVec 32 := 1#32
  ⟨c0_i32_33, v74, c1_i32_35⟩
def k0_mult10 (i : grid0.Coords) (k0_t10 : Fin (k0_t10_loop i).trips) : BitVec 32 :=
  let c0_i32_33 : BitVec 32 := 0#32
  let c1_i32_35 : BitVec 32 := 1#32
  let arg15 : BitVec 32 := Scf.iv c0_i32_33 c1_i32_35 k0_t10
  let c256_i32_57 : BitVec 32 := 256#32
  let v125 : BitVec 32 := Scalar.muli arg15 c256_i32_57
  v125
def k0_off29 (i : grid0.Coords) (k0_t10 : Fin (k0_t10_loop i).trips) : Fin 3 → Nat :=
  let c0_58 : Index := 0#32
  let c0_i32_33 : BitVec 32 := 0#32
  let c1_i32_35 : BitVec 32 := 1#32
  let arg15 : BitVec 32 := Scf.iv c0_i32_33 c1_i32_35 k0_t10
  let c256_i32_57 : BitVec 32 := 256#32
  let v125 : BitVec 32 := Scalar.muli arg15 c256_i32_57
  let v126 : BitVec 32 := v125
  let v127 : Index := Scalar.indexCast v126
  let c128_59 : Index := 128#32
  ![0, v127.toNat, 128]
def k0_off30 (i : grid0.Coords) (k0_t10 : Fin (k0_t10_loop i).trips) : Fin 3 → Nat :=
  let c1_61 : Index := 1#32
  let c0_i32_33 : BitVec 32 := 0#32
  let c1_i32_35 : BitVec 32 := 1#32
  let arg15 : BitVec 32 := Scf.iv c0_i32_33 c1_i32_35 k0_t10
  let c256_i32_57 : BitVec 32 := 256#32
  let v125 : BitVec 32 := Scalar.muli arg15 c256_i32_57
  let v126 : BitVec 32 := v125
  let v131 : Index := Scalar.indexCast v126
  let c0_62 : Index := 0#32
  ![1, v131.toNat, 0]
def k0_off31 (i : grid0.Coords) (k0_t10 : Fin (k0_t10_loop i).trips) : Fin 2 → Nat :=
  let c0_i32_33 : BitVec 32 := 0#32
  let c1_i32_35 : BitVec 32 := 1#32
  let arg15 : BitVec 32 := Scf.iv c0_i32_33 c1_i32_35 k0_t10
  let c256_i32_57 : BitVec 32 := 256#32
  let v125 : BitVec 32 := Scalar.muli arg15 c256_i32_57
  let v126 : BitVec 32 := v125
  let v138 : Index := Scalar.indexCast v126
  let c0_63 : Index := 0#32
  ![v138.toNat, 0]
@[reducible] def k0_t11_loop (i : grid0.Coords) : Scf.Loop 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let v71 : BitVec 32 := Scalar.addi c0_i32_33 v70
  let c1_i32_36 : BitVec 32 := 1#32
  ⟨v74, v71, c1_i32_36⟩
def k0_mult11 (i : grid0.Coords) (k0_t11 : Fin (k0_t11_loop i).trips) : BitVec 32 :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t11
  let c256_i32_57 : BitVec 32 := 256#32
  let v125 : BitVec 32 := Scalar.muli arg15 c256_i32_57
  v125
def k0_off32 (i : grid0.Coords) (k0_t11 : Fin (k0_t11_loop i).trips) : Fin 3 → Nat :=
  let c0_58 : Index := 0#32
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t11
  let c256_i32_57 : BitVec 32 := 256#32
  let v125 : BitVec 32 := Scalar.muli arg15 c256_i32_57
  let v126 : BitVec 32 := v125
  let v127 : Index := Scalar.indexCast v126
  let c128_59 : Index := 128#32
  ![0, v127.toNat, 128]
def k0_off33 (i : grid0.Coords) (k0_t11 : Fin (k0_t11_loop i).trips) : Fin 3 → Nat :=
  let c1_61 : Index := 1#32
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t11
  let c256_i32_57 : BitVec 32 := 256#32
  let v125 : BitVec 32 := Scalar.muli arg15 c256_i32_57
  let v126 : BitVec 32 := v125
  let v131 : Index := Scalar.indexCast v126
  let c0_62 : Index := 0#32
  ![1, v131.toNat, 0]
def k0_off34 (i : grid0.Coords) (k0_t11 : Fin (k0_t11_loop i).trips) : Fin 2 → Nat :=
  let c0_i32_33 : BitVec 32 := 0#32
  let arg1 : BitVec 32 := BitVec.ofNat 32 (i 1).val
  let v70 : BitVec 32 := Scalar.subi arg1 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg15 : BitVec 32 := Scf.iv v74 c1_i32_36 k0_t11
  let c256_i32_57 : BitVec 32 := 256#32
  let v125 : BitVec 32 := Scalar.muli arg15 c256_i32_57
  let v126 : BitVec 32 := v125
  let v138 : Index := Scalar.indexCast v126
  let c0_63 : Index := 0#32
  ![v138.toNat, 0]
def k0_mult12 (i : grid0.Coords) : BitVec 32 :=
  let arg1 : BitVec 32 := BitVec.ofNat 32 (i 1).val
  let c256_i32 : BitVec 32 := 256#32
  let v77 : BitVec 32 := Scalar.muli arg1 c256_i32
  v77
def k0_off35 (i : grid0.Coords) : Fin 3 → Nat :=
  let c0_37 : Index := 0#32
  let arg1 : BitVec 32 := BitVec.ofNat 32 (i 1).val
  let c256_i32 : BitVec 32 := 256#32
  let v77 : BitVec 32 := Scalar.muli arg1 c256_i32
  let v78 : BitVec 32 := v77
  let v79 : Index := Scalar.indexCast v78
  let c128 : Index := 128#32
  ![0, v79.toNat, 128]
def k0_off36 (i : grid0.Coords) : Fin 3 → Nat :=
  let c1 : Index := 1#32
  let arg1 : BitVec 32 := BitVec.ofNat 32 (i 1).val
  let c256_i32 : BitVec 32 := 256#32
  let v77 : BitVec 32 := Scalar.muli arg1 c256_i32
  let v78 : BitVec 32 := v77
  let v83 : Index := Scalar.indexCast v78
  let c0_39 : Index := 0#32
  ![1, v83.toNat, 0]
def k0_off37 (i : grid0.Coords) : Fin 2 → Nat :=
  let arg1 : BitVec 32 := BitVec.ofNat 32 (i 1).val
  let c256_i32 : BitVec 32 := 256#32
  let v77 : BitVec 32 := Scalar.muli arg1 c256_i32
  let v78 : BitVec 32 := v77
  let v93 : Index := Scalar.indexCast v78
  let c0_41 : Index := 0#32
  ![v93.toNat, 0]
@[reducible] def k0_t12_loop (i : grid0.Coords) : Scf.Loop 32 :=
  let c0_i32_45 : BitVec 32 := 0#32
  let arg1 : BitVec 32 := BitVec.ofNat 32 (i 1).val
  let c1_i32_43 : BitVec 32 := 1#32
  let v100 : BitVec 32 := Scalar.addi arg1 c1_i32_43
  let v102 : BitVec 32 := Scalar.subi v100 c0_i32_45
  let c1_i32_46 : BitVec 32 := 1#32
  let v104 : BitVec 32 := Scalar.divsi v102 c1_i32_46
  let v105 : BitVec 32 := Scalar.muli v104 c1_i32_46
  let v106 : BitVec 32 := Scalar.addi c0_i32_45 v105
  let c1_i32_47 : BitVec 32 := 1#32
  ⟨c0_i32_45, v106, c1_i32_47⟩
def k0_mult13 (i : grid0.Coords) (k0_t12 : Fin (k0_t12_loop i).trips) : BitVec 32 :=
  let c0_i32_45 : BitVec 32 := 0#32
  let c1_i32_47 : BitVec 32 := 1#32
  let arg15 : BitVec 32 := Scf.iv c0_i32_45 c1_i32_47 k0_t12
  let c256_i32_57 : BitVec 32 := 256#32
  let v125 : BitVec 32 := Scalar.muli arg15 c256_i32_57
  v125
def k0_off38 (i : grid0.Coords) (k0_t12 : Fin (k0_t12_loop i).trips) : Fin 2 → Nat :=
  let c0_i32_45 : BitVec 32 := 0#32
  let c1_i32_47 : BitVec 32 := 1#32
  let arg15 : BitVec 32 := Scf.iv c0_i32_45 c1_i32_47 k0_t12
  let c256_i32_57 : BitVec 32 := 256#32
  let v125 : BitVec 32 := Scalar.muli arg15 c256_i32_57
  let v126 : BitVec 32 := v125
  let v127 : Index := Scalar.indexCast v126
  let c0_58 : Index := 0#32
  ![v127.toNat, 0]
@[reducible] def k0_t13_loop (i : grid0.Coords) : Scf.Loop 32 :=
  let c0_i32_45 : BitVec 32 := 0#32
  let arg1 : BitVec 32 := BitVec.ofNat 32 (i 1).val
  let c1_i32_43 : BitVec 32 := 1#32
  let v100 : BitVec 32 := Scalar.addi arg1 c1_i32_43
  let v102 : BitVec 32 := Scalar.subi v100 c0_i32_45
  let c1_i32_46 : BitVec 32 := 1#32
  let v104 : BitVec 32 := Scalar.divsi v102 c1_i32_46
  let v105 : BitVec 32 := Scalar.muli v104 c1_i32_46
  let v106 : BitVec 32 := Scalar.addi c0_i32_45 v105
  let v103 : BitVec 32 := Scalar.addi c0_i32_45 v102
  let c1_i32_48 : BitVec 32 := 1#32
  ⟨v106, v103, c1_i32_48⟩
def k0_mult14 (i : grid0.Coords) (k0_t13 : Fin (k0_t13_loop i).trips) : BitVec 32 :=
  let c0_i32_45 : BitVec 32 := 0#32
  let arg1 : BitVec 32 := BitVec.ofNat 32 (i 1).val
  let c1_i32_43 : BitVec 32 := 1#32
  let v100 : BitVec 32 := Scalar.addi arg1 c1_i32_43
  let v102 : BitVec 32 := Scalar.subi v100 c0_i32_45
  let c1_i32_46 : BitVec 32 := 1#32
  let v104 : BitVec 32 := Scalar.divsi v102 c1_i32_46
  let v105 : BitVec 32 := Scalar.muli v104 c1_i32_46
  let v106 : BitVec 32 := Scalar.addi c0_i32_45 v105
  let c1_i32_48 : BitVec 32 := 1#32
  let arg15 : BitVec 32 := Scf.iv v106 c1_i32_48 k0_t13
  let c256_i32_57 : BitVec 32 := 256#32
  let v125 : BitVec 32 := Scalar.muli arg15 c256_i32_57
  v125
def k0_off39 (i : grid0.Coords) (k0_t13 : Fin (k0_t13_loop i).trips) : Fin 2 → Nat :=
  let c0_i32_45 : BitVec 32 := 0#32
  let arg1 : BitVec 32 := BitVec.ofNat 32 (i 1).val
  let c1_i32_43 : BitVec 32 := 1#32
  let v100 : BitVec 32 := Scalar.addi arg1 c1_i32_43
  let v102 : BitVec 32 := Scalar.subi v100 c0_i32_45
  let c1_i32_46 : BitVec 32 := 1#32
  let v104 : BitVec 32 := Scalar.divsi v102 c1_i32_46
  let v105 : BitVec 32 := Scalar.muli v104 c1_i32_46
  let v106 : BitVec 32 := Scalar.addi c0_i32_45 v105
  let c1_i32_48 : BitVec 32 := 1#32
  let arg15 : BitVec 32 := Scf.iv v106 c1_i32_48 k0_t13
  let c256_i32_57 : BitVec 32 := 256#32
  let v125 : BitVec 32 := Scalar.muli arg15 c256_i32_57
  let v126 : BitVec 32 := v125
  let v127 : Index := Scalar.indexCast v126
  let c0_58 : Index := 0#32
  ![v127.toNat, 0]
@[reducible] def k0_t14_loop (i : grid0.Coords) : Scf.Loop 32 :=
  let c0_i32_52 : BitVec 32 := 0#32
  let arg1 : BitVec 32 := BitVec.ofNat 32 (i 1).val
  let c1_i32_49 : BitVec 32 := 1#32
  let v109 : BitVec 32 := Scalar.addi arg1 c1_i32_49
  let v113 : BitVec 32 := Scalar.subi v109 c0_i32_52
  let c1_i32_53 : BitVec 32 := 1#32
  let v115 : BitVec 32 := Scalar.divsi v113 c1_i32_53
  let v116 : BitVec 32 := Scalar.muli v115 c1_i32_53
  let v117 : BitVec 32 := Scalar.addi c0_i32_52 v116
  let c1_i32_54 : BitVec 32 := 1#32
  ⟨c0_i32_52, v117, c1_i32_54⟩
def k0_mult15 (i : grid0.Coords) (k0_t14 : Fin (k0_t14_loop i).trips) : BitVec 32 :=
  let c0_i32_52 : BitVec 32 := 0#32
  let c1_i32_54 : BitVec 32 := 1#32
  let arg15 : BitVec 32 := Scf.iv c0_i32_52 c1_i32_54 k0_t14
  let c256_i32_57 : BitVec 32 := 256#32
  let v125 : BitVec 32 := Scalar.muli arg15 c256_i32_57
  v125
def k0_off40 (i : grid0.Coords) (k0_t14 : Fin (k0_t14_loop i).trips) : Fin 2 → Nat :=
  let c0_i32_52 : BitVec 32 := 0#32
  let c1_i32_54 : BitVec 32 := 1#32
  let arg15 : BitVec 32 := Scf.iv c0_i32_52 c1_i32_54 k0_t14
  let c256_i32_57 : BitVec 32 := 256#32
  let v125 : BitVec 32 := Scalar.muli arg15 c256_i32_57
  let v126 : BitVec 32 := v125
  let v127 : Index := Scalar.indexCast v126
  let c0_58 : Index := 0#32
  ![v127.toNat, 0]
def k0_off41 (i : grid0.Coords) (k0_t14 : Fin (k0_t14_loop i).trips) : Fin 3 → Nat :=
  let c1_59 : Index := 1#32
  let c0_60 : Index := 0#32
  let c0_i32_52 : BitVec 32 := 0#32
  let c1_i32_54 : BitVec 32 := 1#32
  let arg15 : BitVec 32 := Scf.iv c0_i32_52 c1_i32_54 k0_t14
  let c256_i32_57 : BitVec 32 := 256#32
  let v125 : BitVec 32 := Scalar.muli arg15 c256_i32_57
  let v126 : BitVec 32 := v125
  let v132 : Index := Scalar.indexCast v126
  ![1, 0, v132.toNat]
@[reducible] def k0_t15_loop (i : grid0.Coords) : Scf.Loop 32 :=
  let c0_i32_52 : BitVec 32 := 0#32
  let arg1 : BitVec 32 := BitVec.ofNat 32 (i 1).val
  let c1_i32_49 : BitVec 32 := 1#32
  let v109 : BitVec 32 := Scalar.addi arg1 c1_i32_49
  let v113 : BitVec 32 := Scalar.subi v109 c0_i32_52
  let c1_i32_53 : BitVec 32 := 1#32
  let v115 : BitVec 32 := Scalar.divsi v113 c1_i32_53
  let v116 : BitVec 32 := Scalar.muli v115 c1_i32_53
  let v117 : BitVec 32 := Scalar.addi c0_i32_52 v116
  let v114 : BitVec 32 := Scalar.addi c0_i32_52 v113
  let c1_i32_55 : BitVec 32 := 1#32
  ⟨v117, v114, c1_i32_55⟩
def k0_mult16 (i : grid0.Coords) (k0_t15 : Fin (k0_t15_loop i).trips) : BitVec 32 :=
  let c0_i32_52 : BitVec 32 := 0#32
  let arg1 : BitVec 32 := BitVec.ofNat 32 (i 1).val
  let c1_i32_49 : BitVec 32 := 1#32
  let v109 : BitVec 32 := Scalar.addi arg1 c1_i32_49
  let v113 : BitVec 32 := Scalar.subi v109 c0_i32_52
  let c1_i32_53 : BitVec 32 := 1#32
  let v115 : BitVec 32 := Scalar.divsi v113 c1_i32_53
  let v116 : BitVec 32 := Scalar.muli v115 c1_i32_53
  let v117 : BitVec 32 := Scalar.addi c0_i32_52 v116
  let c1_i32_55 : BitVec 32 := 1#32
  let arg15 : BitVec 32 := Scf.iv v117 c1_i32_55 k0_t15
  let c256_i32_57 : BitVec 32 := 256#32
  let v125 : BitVec 32 := Scalar.muli arg15 c256_i32_57
  v125
def k0_off42 (i : grid0.Coords) (k0_t15 : Fin (k0_t15_loop i).trips) : Fin 2 → Nat :=
  let c0_i32_52 : BitVec 32 := 0#32
  let arg1 : BitVec 32 := BitVec.ofNat 32 (i 1).val
  let c1_i32_49 : BitVec 32 := 1#32
  let v109 : BitVec 32 := Scalar.addi arg1 c1_i32_49
  let v113 : BitVec 32 := Scalar.subi v109 c0_i32_52
  let c1_i32_53 : BitVec 32 := 1#32
  let v115 : BitVec 32 := Scalar.divsi v113 c1_i32_53
  let v116 : BitVec 32 := Scalar.muli v115 c1_i32_53
  let v117 : BitVec 32 := Scalar.addi c0_i32_52 v116
  let c1_i32_55 : BitVec 32 := 1#32
  let arg15 : BitVec 32 := Scf.iv v117 c1_i32_55 k0_t15
  let c256_i32_57 : BitVec 32 := 256#32
  let v125 : BitVec 32 := Scalar.muli arg15 c256_i32_57
  let v126 : BitVec 32 := v125
  let v127 : Index := Scalar.indexCast v126
  let c0_58 : Index := 0#32
  ![v127.toNat, 0]
def k0_off43 (i : grid0.Coords) (k0_t15 : Fin (k0_t15_loop i).trips) : Fin 3 → Nat :=
  let c1_59 : Index := 1#32
  let c0_60 : Index := 0#32
  let c0_i32_52 : BitVec 32 := 0#32
  let arg1 : BitVec 32 := BitVec.ofNat 32 (i 1).val
  let c1_i32_49 : BitVec 32 := 1#32
  let v109 : BitVec 32 := Scalar.addi arg1 c1_i32_49
  let v113 : BitVec 32 := Scalar.subi v109 c0_i32_52
  let c1_i32_53 : BitVec 32 := 1#32
  let v115 : BitVec 32 := Scalar.divsi v113 c1_i32_53
  let v116 : BitVec 32 := Scalar.muli v115 c1_i32_53
  let v117 : BitVec 32 := Scalar.addi c0_i32_52 v116
  let c1_i32_55 : BitVec 32 := 1#32
  let arg15 : BitVec 32 := Scf.iv v117 c1_i32_55 k0_t15
  let c256_i32_57 : BitVec 32 := 256#32
  let v125 : BitVec 32 := Scalar.muli arg15 c256_i32_57
  let v126 : BitVec 32 := v125
  let v132 : Index := Scalar.indexCast v126
  ![1, 0, v132.toNat]
def k0_off44 (k0_t9 : Fin k0_t9_loop.trips) : Fin 2 → Nat :=
  let c0_56 : Index := 0#32
  let c8_i32_26 : BitVec 32 := 8#32
  let c0_i32_3 : BitVec 32 := 0#32
  let c1_i32_5 : BitVec 32 := 1#32
  let arg14 : BitVec 32 := Scf.iv c0_i32_3 c1_i32_5 k0_t9
  let v58 : BitVec 32 := Scalar.addi c8_i32_26 arg14
  let c128_i32 : BitVec 32 := 128#32
  let v59 : BitVec 32 := Scalar.muli v58 c128_i32
  let v60 : BitVec 32 := v59
  let v121 : Index := Scalar.indexCast v60
  ![0, v121.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "neg" => some ⊥
  | "sm_log2" => some (((Real.sqrt 128)⁻¹ * (Real.log 2)⁻¹ : ℝ) : EReal)
  | _ => none
-- ==== ReferenceIdeal.lean ====
abbrev S8x8192x2048 : Shape := ⟨3, ![8, 8192, 2048]⟩
abbrev S8x8192x16 : Shape := ⟨3, ![8, 8192, 16]⟩
abbrev S8x8192x256 : Shape := ⟨3, ![8, 8192, 256]⟩
abbrev S8x8192x2 : Shape := ⟨3, ![8, 8192, 2]⟩
abbrev S8x1x8192 : Shape := ⟨3, ![8, 1, 8192]⟩
abbrev S8x8192x16x128 : Shape := ⟨4, ![8, 8192, 16, 128]⟩
abbrev S8x16x8192x128 : Shape := ⟨4, ![8, 16, 8192, 128]⟩
abbrev S128x8192x128 : Shape := ⟨3, ![128, 8192, 128]⟩
abbrev S8x8192x2x128 : Shape := ⟨4, ![8, 8192, 2, 128]⟩
abbrev S8x2x8192x128 : Shape := ⟨4, ![8, 2, 8192, 128]⟩
abbrev S8x2x1x8192x128 : Shape := ⟨5, ![8, 2, 1, 8192, 128]⟩
abbrev S8x2x8x8192x128 : Shape := ⟨5, ![8, 2, 8, 8192, 128]⟩
abbrev S8x16x8192 : Shape := ⟨3, ![8, 16, 8192]⟩
abbrev S128x8192 : Shape := ⟨2, ![128, 8192]⟩
abbrev S8x2x8192 : Shape := ⟨3, ![8, 2, 8192]⟩
abbrev S8x2x1x8192 : Shape := ⟨4, ![8, 2, 1, 8192]⟩
abbrev S8x2x8x8192 : Shape := ⟨4, ![8, 2, 8, 8192]⟩
abbrev S128x8192x8192 : Shape := ⟨3, ![128, 8192, 8192]⟩
abbrev S128x8192x1 : Shape := ⟨3, ![128, 8192, 1]⟩
abbrev S128x1x8192 : Shape := ⟨3, ![128, 1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x8192x2048, .fp8e4m3⟩
  | .hbm, ⟨1, _⟩ => ⟨S8x8192x16, .f32⟩
  | .hbm, ⟨2, _⟩ => ⟨S8x8192x256, .fp8e4m3⟩
  | .hbm, ⟨3, _⟩ => ⟨S8x8192x2, .f32⟩
  | .hbm, ⟨4, _⟩ => ⟨S8x8192x256, .fp8e4m3⟩
  | .hbm, ⟨5, _⟩ => ⟨S8x8192x2, .f32⟩
  | .hbm, ⟨6, _⟩ => ⟨S8x8192x2048, .fp8e4m3⟩
  | .hbm, ⟨7, _⟩ => ⟨S8x1x8192, .f32⟩
  | .local _ .vmem, ⟨0, _⟩ => ⟨S8x8192x2048, .fp8e4m3⟩
  | .local _ .vmem, ⟨1, _⟩ => ⟨S8x8192x16, .f32⟩
  | .local _ .vmem, ⟨2, _⟩ => ⟨S8x8192x256, .fp8e4m3⟩
  | .local _ .vmem, ⟨3, _⟩ => ⟨S8x8192x2, .f32⟩
  | .local _ .vmem, ⟨4, _⟩ => ⟨S8x8192x256, .fp8e4m3⟩
  | .local _ .vmem, ⟨5, _⟩ => ⟨S8x8192x2, .f32⟩
  | .local _ .vmem, ⟨6, _⟩ => ⟨S8x8192x2048, .fp8e4m3⟩
  | .local _ .vmem, ⟨7, _⟩ => ⟨S8x1x8192, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | "sm_scale" => some (((Real.sqrt 128)⁻¹ : ℝ) : EReal)
  | _ => none

abbrev grid0 : Pipeline.Grid := .none

abbrev stage0_0 : Fin 1 → Memref sig .tc .vmem S8x8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelBody.lean ====
/-
  One grid point of `Kernel` terminates without fault whatever its buffers hold: the step the frame claim rests on.
-/
module

public import proofs.«01_k».proof.Proof.Gen.Kernel.Loops
public import proofs.«01_k».proof.Proof.Gen.Kernel.Frame
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The heads' loop of one group: before every trip the query, scale, key and prepared buffers are as they were, and the
    two work buffers are held at some contents. -/
@[sl_loop] noncomputable def loopInv_k0_t2 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (X2 : BufTy.Contents (Elt F) arg2.view.ty) (X3 : BufTy.Contents (Elt F) arg3.view.ty) (X4 : BufTy.Contents (Elt F) arg4.view.ty) (X10 : BufTy.Contents (Elt F) arg10.view.ty) (X11 : BufTy.Contents (Elt F) arg11.view.ty) :
    Cert.Kernel.Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v3 v4 where
  inv := fun _ _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)))
  step := fun k acc => by
    iintro ⟨H2, H3, H4, H10, H11, ⟨%f12, H12⟩, ⟨%f13, H13⟩⟩
    unfold Cert.Kernel.Gen.k0_t2_body
    sl_exec
    sl_step
    isplitl [H2]; · iexact H2
    isplitl [H3]; · iexact H3
    isplitl [H4]; · iexact H4
    isplitl [H10]; · iexact H10
    isplitl [H11]; · iexact H11
    isplitl [H12]; · iexists _; iexact H12
    iexists _; iexact H13

set_option warn.classDefReducibility false in
/-- The heads' loop of one group: before every trip the query, scale, key and prepared buffers are as they were, and the
    two work buffers are held at some contents. -/
@[sl_loop] noncomputable def loopInv_k0_t9 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (X2 : BufTy.Contents (Elt F) arg2.view.ty) (X3 : BufTy.Contents (Elt F) arg3.view.ty) (X4 : BufTy.Contents (Elt F) arg4.view.ty) (X10 : BufTy.Contents (Elt F) arg10.view.ty) (X11 : BufTy.Contents (Elt F) arg11.view.ty) :
    Cert.Kernel.Gen.LoopInvTy_k0_t9 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v3 v4 where
  inv := fun _ _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)))
  step := fun k acc => by
    iintro ⟨H2, H3, H4, H10, H11, ⟨%f12, H12⟩, ⟨%f13, H13⟩⟩
    unfold Cert.Kernel.Gen.k0_t9_body
    sl_exec
    sl_step
    isplitl [H2]; · iexact H2
    isplitl [H3]; · iexact H3
    isplitl [H4]; · iexact H4
    isplitl [H10]; · iexact H10
    isplitl [H11]; · iexact H11
    isplitl [H12]; · iexists _; iexact H12
    iexists _; iexact H13

/-- One grid point: on the six staged inputs, the two result blocks and the four scratch buffers at any contents, the body
    terminates without fault, the inputs as they were. -/
theorem body_run (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄)
      ⊢ wp frame (wpE (defs₀ (F := F)) Variants.none (c : Thread nD τ) none) Set.univ
        (cc0_fp8_causal_gqa (F := F) i arg2 harg2 arg3 harg3 arg4 harg4 arg5 harg5 arg6 harg6 arg7 harg7 arg8 harg8 arg9 harg9 arg10 harg10 arg11 harg11 arg12 harg12 arg13 harg13) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  simp only [cc0_fp8_causal_gqa_eq_skeleton]; unfold cc0_fp8_causal_gqa_skel
  iintro ⟨H2, H3, H4, H5, H6, H7, ⟨%f8, H8⟩, ⟨%f9, H9⟩, ⟨%f10, H10⟩, ⟨%f11, H11⟩, ⟨%f12, H12⟩, ⟨%f13, H13⟩⟩
  by_cases hC : k0_cond1 i = 1#1
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Hand

end
-- ==== Proof.KernelFrame.lean ====
/-
  The frame of `Kernel`: every execution terminates without fault, the argument arrays end unchanged, every semaphore
  counter ends at zero. Nothing is said of the results here.
-/
module

public import proofs.«01_k».proof.Proof.KernelBody
public import Idealize.ShloMosaic.Lib.Pipeline.FrameBody
public import Idealize.ShloMosaic.Lib.Quiescent

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two result windows, of whose contents the frame says nothing. -/
def fgt : Fin cfg0.W → Bool := fun w => match w with | 6 => true | 7 => true | _ => false

/-- The proof data: the arrays as the region finds them, every input block left in place, the scratch buffers at anything. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ X, owns (c : Thread nD τ) (st0_6 t) fullShare X) ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, owns (c : Thread nD τ) (st0_6 t) fullShare X) ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦA spec0 c from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  unfold owns
  iintro ⟨⟨⟨⟨%g0, HS0⟩, ⟨%g1, HS1⟩, ⟨%g2, HS2⟩, ⟨%g3, HS3⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X6, %f6, -, H6⟩, ⟨%X7, %f7, -, H7⟩⟩
  iapply (wp_wand_r Idealize.ShloMosaic.frame (wpE (defs₀ (F := F)) Variants.none (c : Thread nD τ) none) Set.univ)
  isplitl [H0 H1 H2 H3 H4 H5 H6 H7 HS0 HS1 HS2 HS3]
  · unfold bodyAt0
    iapply (body_run c (grid0.coords t) _ _ _ _ _ _ _ _ _ _ _ _ _ _ _ _ _ _ _ _ _ _ _ _ f0 f1 f2 f3 f4 f5)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexists _; rw [View.set_whole]; iexact HS0
    isplitl [HS1]; · iexists _; rw [View.set_whole]; iexact HS1
    isplitl [HS2]; · iexists _; rw [View.set_whole]; iexact HS2
    iexists _; rw [View.set_whole]; iexact HS3
  · iintro %_ ⟨H0, H1, H2, H3, H4, H5, ⟨%h6, H6⟩, ⟨%h7, H7⟩, ⟨%h0, HS0⟩, ⟨%h1, HS1⟩, ⟨%h2, HS2⟩, ⟨%h3, HS3⟩⟩
    isplitl [HS0 HS1 HS2 HS3 Hg]
    · isplitl [HS0 HS1 HS2 HS3]
      · isplitl [HS0]; · iexists h0; rw [View.set_whole]; iexact HS0
        isplitl [HS1]; · iexists h1; rw [View.set_whole]; iexact HS1
        isplitl [HS2]; · iexists h2; rw [View.set_whole]; iexact HS2
        iexists h3; rw [View.set_whole]; iexact HS3
      iexact Hg
    isplitl [HW]; · iexact HW
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists _, h6; isplitr; swap; · iexact H6
      ipureintro; rfl
    iexists _, h7; isplitr; swap; · iexact H7
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m)
    (hΦ := fun _ _ => rfl)

/-- The frame claim's statement, at any reading of the floats. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans (V_main_arg0 m c),
      ((h.1 c).2 main_arg1 (Pipeline.mem_restRefs_of main_arg1 (by decide) (by decide))).trans (V_main_arg1 m c),
      (h.1.arr_in c 2 rfl).trans (V_main_arg2 m c),
      ((h.1 c).2 main_arg3 (Pipeline.mem_restRefs_of main_arg3 (by decide) (by decide))).trans (V_main_arg3 m c),
      (h.1.arr_in c 4 rfl).trans (V_main_arg4 m c),
      ((h.1 c).2 main_arg5 (Pipeline.mem_restRefs_of main_arg5 (by decide) (by decide))).trans (V_main_arg5 m c)⟩, h.2⟩)
    (run_main m ρ)

end Cert.Kernel.Hand

end
-- ==== Proof.KernelIdealBody.lean ====
/-
  One grid point of `KernelIdeal` terminates without fault whatever its buffers hold: the step the frame claim rests on.
-/
module

public import proofs.«01_k».proof.Proof.Gen.KernelIdeal.Loops
public import proofs.«01_k».proof.Proof.Gen.KernelIdeal.Frame
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The heads' loop of one group: before every trip the query, scale, key and prepared buffers are as they were, and the
    two work buffers are held at some contents. -/
@[sl_loop] noncomputable def loopInv_k0_t2 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (X2 : BufTy.Contents (Elt F) arg2.view.ty) (X3 : BufTy.Contents (Elt F) arg3.view.ty) (X4 : BufTy.Contents (Elt F) arg4.view.ty) (X10 : BufTy.Contents (Elt F) arg10.view.ty) (X11 : BufTy.Contents (Elt F) arg11.view.ty) :
    Cert.KernelIdeal.Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v3 v4 where
  inv := fun _ _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)))
  step := fun k acc => by
    iintro ⟨H2, H3, H4, H10, H11, ⟨%f12, H12⟩, ⟨%f13, H13⟩⟩
    unfold Cert.KernelIdeal.Gen.k0_t2_body
    sl_exec
    sl_step
    isplitl [H2]; · iexact H2
    isplitl [H3]; · iexact H3
    isplitl [H4]; · iexact H4
    isplitl [H10]; · iexact H10
    isplitl [H11]; · iexact H11
    isplitl [H12]; · iexists _; iexact H12
    iexists _; iexact H13

set_option warn.classDefReducibility false in
/-- The heads' loop of one group: before every trip the query, scale, key and prepared buffers are as they were, and the
    two work buffers are held at some contents. -/
@[sl_loop] noncomputable def loopInv_k0_t9 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (X2 : BufTy.Contents (Elt F) arg2.view.ty) (X3 : BufTy.Contents (Elt F) arg3.view.ty) (X4 : BufTy.Contents (Elt F) arg4.view.ty) (X10 : BufTy.Contents (Elt F) arg10.view.ty) (X11 : BufTy.Contents (Elt F) arg11.view.ty) :
    Cert.KernelIdeal.Gen.LoopInvTy_k0_t9 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 v3 v4 where
  inv := fun _ _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11) ∗ (∃ f, (arg12.view.loc (c : Thread nD τ) ↦[arg12.view.set]{fullShare} f)) ∗ (∃ f, (arg13.view.loc (c : Thread nD τ) ↦[arg13.view.set]{fullShare} f)))
  step := fun k acc => by
    iintro ⟨H2, H3, H4, H10, H11, ⟨%f12, H12⟩, ⟨%f13, H13⟩⟩
    unfold Cert.KernelIdeal.Gen.k0_t9_body
    sl_exec
    sl_step
    isplitl [H2]; · iexact H2
    isplitl [H3]; · iexact H3
    isplitl [H4]; · iexact H4
    isplitl [H10]; · iexact H10
    isplitl [H11]; · iexact H11
    isplitl [H12]; · iexists _; iexact H12
    iexists _; iexact H13

/-- One grid point: on the six staged inputs, the two result blocks and the four scratch buffers at any contents, the body
    terminates without fault, the inputs as they were. -/
theorem body_run (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) : sProp 𝕄)
      ⊢ wp frame (wpE (defs₀ (F := F)) Variants.none (c : Thread nD τ) none) Set.univ
        (cc0_fp8_causal_gqa (F := F) i arg2 harg2 arg3 harg3 arg4 harg4 arg5 harg5 arg6 harg6 arg7 harg7 arg8 harg8 arg9 harg9 arg10 harg10 arg11 harg11 arg12 harg12 arg13 harg13) (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  simp only [cc0_fp8_causal_gqa_eq_skeleton]; unfold cc0_fp8_causal_gqa_skel
  iintro ⟨H2, H3, H4, H5, H6, H7, ⟨%f8, H8⟩, ⟨%f9, H9⟩, ⟨%f10, H10⟩, ⟨%f11, H11⟩, ⟨%f12, H12⟩, ⟨%f13, H13⟩⟩
  by_cases hC : k0_cond1 i = 1#1
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Hand

end
-- ==== Proof.KernelIdealFrame.lean ====
/-
  The frame of `KernelIdeal`: every execution terminates without fault, the argument arrays end unchanged, every semaphore
  counter ends at zero. Nothing is said of the results here.
-/
module

public import proofs.«01_k».proof.Proof.KernelIdealBody
public import Idealize.ShloMosaic.Lib.Pipeline.FrameBody
public import Idealize.ShloMosaic.Lib.Quiescent

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two result windows, of whose contents the frame says nothing. -/
def fgt : Fin cfg0.W → Bool := fun w => match w with | 6 => true | 7 => true | _ => false

/-- The proof data: the arrays as the region finds them, every input block left in place, the scratch buffers at anything. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ X, owns (c : Thread nD τ) (st0_6 t) fullShare X) ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, owns (c : Thread nD τ) (st0_6 t) fullShare X) ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦA spec0 c from rfl,
    show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  unfold owns
  iintro ⟨⟨⟨⟨%g0, HS0⟩, ⟨%g1, HS1⟩, ⟨%g2, HS2⟩, ⟨%g3, HS3⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X6, %f6, -, H6⟩, ⟨%X7, %f7, -, H7⟩⟩
  iapply (wp_wand_r Idealize.ShloMosaic.frame (wpE (defs₀ (F := F)) Variants.none (c : Thread nD τ) none) Set.univ)
  isplitl [H0 H1 H2 H3 H4 H5 H6 H7 HS0 HS1 HS2 HS3]
  · unfold bodyAt0
    iapply (body_run c (grid0.coords t) _ _ _ _ _ _ _ _ _ _ _ _ _ _ _ _ _ _ _ _ _ _ _ _ f0 f1 f2 f3 f4 f5)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexists _; rw [View.set_whole]; iexact HS0
    isplitl [HS1]; · iexists _; rw [View.set_whole]; iexact HS1
    isplitl [HS2]; · iexists _; rw [View.set_whole]; iexact HS2
    iexists _; rw [View.set_whole]; iexact HS3
  · iintro %_ ⟨H0, H1, H2, H3, H4, H5, ⟨%h6, H6⟩, ⟨%h7, H7⟩, ⟨%h0, HS0⟩, ⟨%h1, HS1⟩, ⟨%h2, HS2⟩, ⟨%h3, HS3⟩⟩
    isplitl [HS0 HS1 HS2 HS3 Hg]
    · isplitl [HS0 HS1 HS2 HS3]
      · isplitl [HS0]; · iexists h0; rw [View.set_whole]; iexact HS0
        isplitl [HS1]; · iexists h1; rw [View.set_whole]; iexact HS1
        isplitl [HS2]; · iexists h2; rw [View.set_whole]; iexact HS2
        iexists h3; rw [View.set_whole]; iexact HS3
      iexact Hg
    isplitl [HW]; · iexact HW
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists _, h6; isplitr; swap; · iexact H6
      ipureintro; rfl
    iexists _, h7; isplitr; swap; · iexact H7
    ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m)
    (hΦ := fun _ _ => rfl)

/-- The frame claim's statement, at any reading of the floats. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans (V_main_arg0 m c),
      ((h.1 c).2 main_arg1 (Pipeline.mem_restRefs_of main_arg1 (by decide) (by decide))).trans (V_main_arg1 m c),
      (h.1.arr_in c 2 rfl).trans (V_main_arg2 m c),
      ((h.1 c).2 main_arg3 (Pipeline.mem_restRefs_of main_arg3 (by decide) (by decide))).trans (V_main_arg3 m c),
      (h.1.arr_in c 4 rfl).trans (V_main_arg4 m c),
      ((h.1 c).2 main_arg5 (Pipeline.mem_restRefs_of main_arg5 (by decide) (by decide))).trans (V_main_arg5 m c)⟩, h.2⟩)
    (run_main m ρ)

end Cert.KernelIdeal.Hand

end
-- ==== Proof.Read.lean ====
/-
  Arrays read at natural coordinates, and what a load and a store of a box do to such a reading.
-/
module

public import Idealize.ShloMosaic.Lib.Tactic
public import Idealize.ShloMosaic.Lib.WritesUnit
public import Idealize.ShloMosaic.Lib.Pipeline.FrameBody
public import Idealize.ShloMosaic.Lib.Pipeline.ValueKit.Tiles

@[expose] public section

noncomputable section

namespace Cert.Attn

open Idealize.ShloMosaic

/-- The entry of `x` at natural coordinates, zero outside the array. -/
def rd {α : Type} [Zero α] {S : Shape} (x : S.Idx → α) (n : Fin S.rank → ℕ) : α :=
  if h : ∀ a, n a < S.size a then x (fun a => ⟨n a, h a⟩) else 0

/-- Inside the array the reading is the entry. -/
theorem rd_of {α : Type} [Zero α] {S : Shape} (x : S.Idx → α) (n : Fin S.rank → ℕ) (i : S.Idx)
    (h : ∀ a, (i a : ℕ) = n a) : rd x n = x i := by
  have h' : ∀ a, n a < S.size a := fun a => (h a) ▸ (i a).isLt
  unfold rd
  rw [dif_pos h']
  exact congrArg x (funext fun a => Fin.ext (h a).symm)

/-- An entry is the reading at its coordinates. -/
theorem rd_val {α : Type} [Zero α] {S : Shape} (x : S.Idx → α) (i : S.Idx) : x i = rd x fun a => (i a : ℕ) :=
  (rd_of x _ i fun _ => rfl).symm

/-- Two arrays that agree at every entry inside read alike. -/
theorem rd_ext {α : Type} [Zero α] {S : Shape} {x y : S.Idx → α}
    (h : ∀ n : Fin S.rank → ℕ, (∀ a, n a < S.size a) → rd x n = rd y n) : x = y :=
  funext fun i => (rd_val x i).trans ((h _ fun a => (i a).isLt).trans (rd_val y i).symm)

section Memory

variable {Val : EltTy → Type} {e : EltTy} [Zero (Val e)] {sig : RefSig} {κ : Kind} {sp : Space} {S : Shape}
  (v : View sig κ sp S e) (f : v.ty.Contents Val)

/-- A load of a box reads the array at the box's offsets plus the coordinates. -/
theorem rd_readAt {off size : Fin S.rank → ℕ} (inb : ∀ a, off a + size a ≤ S.size a)
    (n N : Fin S.rank → ℕ) (hn : ∀ a, n a < size a) (hN : ∀ a, N a = off a + n a) :
    rd (S := (Rect.unit off size inb).shape) (v.readAt Val (Rect.unit off size inb).toLoadRect f) n
      = rd (v.read Val f) N := by
  have h1 : ∀ a, n a < (Rect.unit off size inb).shape.size a := hn
  have h2 : ∀ a, N a < S.size a := fun a => by
    rw [hN a]; exact lt_of_lt_of_le (Nat.add_lt_add_left (hn a) _) (inb a)
  rw [rd_of (S := (Rect.unit off size inb).shape) _ n (fun a => ⟨n a, h1 a⟩) fun _ => rfl,
    rd_of _ N (fun a => ⟨N a, h2 a⟩) fun _ => rfl]
  rw [View.readAt_eq_ld]
  exact View.ld_unit_apply_of _ off size inb _ _ fun a => hN a

/-- Inside the box stored last, the buffer reads what was stored. -/
theorem rd_write_in {off size : Fin S.rank → ℕ} (inb : ∀ a, off a + size a ≤ S.size a)
    (w : (Rect.unit off size inb).shape.Idx → Val e) (L : List (View.Piece Val S e)) (n N : Fin S.rank → ℕ)
    (hn : ∀ a, n a < size a) (hN : ∀ a, N a = off a + n a) :
    rd (v.read Val (v.writes Val f ((⟨Rect.unit off size inb, w⟩ : View.Piece Val S e) :: L))) N
      = rd (S := (Rect.unit off size inb).shape) w n := by
  have h1 : ∀ a, n a < (Rect.unit off size inb).shape.size a := hn
  have h2 : ∀ a, N a < S.size a := fun a => by
    rw [hN a]; exact lt_of_lt_of_le (Nat.add_lt_add_left (hn a) _) (inb a)
  rw [rd_of (S := (Rect.unit off size inb).shape) w n (fun a => ⟨n a, h1 a⟩) fun _ => rfl, rd_of _ N (fun a => ⟨N a, h2 a⟩) fun _ => rfl]
  exact View.read_writes_cons_unit_of_mem v f inb w L _ _ rfl fun a => hN a

/-- Outside it on some axis, the buffer reads what the earlier stores left. -/
theorem rd_write_out {off size : Fin S.rank → ℕ} (inb : ∀ a, off a + size a ≤ S.size a)
    (w : (Rect.unit off size inb).shape.Idx → Val e) (L : List (View.Piece Val S e)) (N : Fin S.rank → ℕ)
    (a : Fin S.rank) (ha : N a < off a ∨ off a + size a ≤ N a) :
    rd (v.read Val (v.writes Val f ((⟨Rect.unit off size inb, w⟩ : View.Piece Val S e) :: L))) N
      = rd (v.read Val (v.writes Val f L)) N := by
  by_cases h2 : ∀ a, N a < S.size a
  · rw [rd_of _ N (fun a => ⟨N a, h2 a⟩) fun _ => rfl, rd_of _ N (fun a => ⟨N a, h2 a⟩) fun _ => rfl]
    exact View.read_writes_cons_unit_of_not_mem v f inb w L _ rfl a ha
  · unfold rd; rw [dif_neg h2, dif_neg h2]

end Memory

end Cert.Attn

end
-- ==== Proof.Boxes.lean ====
/-
  Loads and stores of boxes of rank two and three, read at natural coordinates; sums and suprema over the first
  tiles of a row.
-/
module

public import proofs.«01_k».proof.Proof.Read
public import Mathlib.Data.EReal.Operations

@[expose] public section

noncomputable section

namespace Cert.Attn

open Idealize.ShloMosaic

section Memory

variable {Val : EltTy → Type} {e : EltTy} [Zero (Val e)] {sig : RefSig} {κ : Kind} {sp : Space}

theorem forall2 {p : Fin 2 → Prop} (h0 : p 0) (h1 : p 1) : ∀ a, p a := Fin.forall_fin_two.mpr ⟨h0, h1⟩

theorem forall3 {p : Fin 3 → Prop} (h0 : p 0) (h1 : p 1) (h2 : p 2) : ∀ a, p a := fun a =>
  match a with
  | ⟨0, _⟩ => h0
  | ⟨1, _⟩ => h1
  | ⟨2, _⟩ => h2

theorem rd_load2 {n0 n1 s0 s1 o0 o1 : ℕ} (v : View sig κ sp (⟨2, ![n0, n1]⟩ : Shape) e) (f : v.ty.Contents Val)
    {off : Fin 2 → ℕ} (inb : ∀ a : Fin 2, off a + (![s0, s1] : Fin 2 → ℕ) a ≤ (![n0, n1] : Fin 2 → ℕ) a)
    (ho : off = ![o0, o1]) (i0 i1 : ℕ) (h0 : i0 < s0) (h1 : i1 < s1) :
    rd (S := (⟨2, ![s0, s1]⟩ : Shape))
        (v.readAt Val (Rect.unit (s := (⟨2, ![n0, n1]⟩ : Shape)) off ![s0, s1] inb).toLoadRect f) ![i0, i1]
      = rd (v.read Val f) ![o0 + i0, o1 + i1] := by
  subst ho
  exact rd_readAt v f inb _ _ (forall2 h0 h1) (forall2 rfl rfl)

theorem rd_load3 {n0 n1 n2 s0 s1 s2 o0 o1 o2 : ℕ} (v : View sig κ sp (⟨3, ![n0, n1, n2]⟩ : Shape) e)
    (f : v.ty.Contents Val) {off : Fin 3 → ℕ}
    (inb : ∀ a : Fin 3, off a + (![s0, s1, s2] : Fin 3 → ℕ) a ≤ (![n0, n1, n2] : Fin 3 → ℕ) a)
    (ho : off = ![o0, o1, o2]) (i0 i1 i2 : ℕ) (h0 : i0 < s0) (h1 : i1 < s1) (h2 : i2 < s2) :
    rd (S := (⟨3, ![s0, s1, s2]⟩ : Shape))
        (v.readAt Val (Rect.unit (s := (⟨3, ![n0, n1, n2]⟩ : Shape)) off ![s0, s1, s2] inb).toLoadRect f) ![i0, i1, i2]
      = rd (v.read Val f) ![o0 + i0, o1 + i1, o2 + i2] := by
  subst ho
  exact rd_readAt v f inb _ _ (forall3 h0 h1 h2) (forall3 rfl rfl rfl)

theorem rd_store2_in {n0 n1 s0 s1 o0 o1 : ℕ} (v : View sig κ sp (⟨2, ![n0, n1]⟩ : Shape) e) (f : v.ty.Contents Val)
    {off : Fin 2 → ℕ} (inb : ∀ a : Fin 2, off a + (![s0, s1] : Fin 2 → ℕ) a ≤ (![n0, n1] : Fin 2 → ℕ) a)
    (w : (⟨2, ![s0, s1]⟩ : Shape).Idx → Val e) (L : List (View.Piece Val (⟨2, ![n0, n1]⟩ : Shape) e))
    (ho : off = ![o0, o1]) (i0 i1 j0 j1 : ℕ) (h0 : i0 < s0) (h1 : i1 < s1) (e0 : j0 = o0 + i0) (e1 : j1 = o1 + i1) :
    rd (v.read Val (v.writes Val f ((⟨Rect.unit (s := (⟨2, ![n0, n1]⟩ : Shape)) off ![s0, s1] inb, w⟩ :
        View.Piece Val (⟨2, ![n0, n1]⟩ : Shape) e) :: L))) ![j0, j1] = rd w ![i0, i1] := by
  subst ho e0 e1
  exact rd_write_in v f inb w L _ _ (forall2 h0 h1) (forall2 rfl rfl)

theorem rd_store2_out {n0 n1 s0 s1 o0 o1 : ℕ} (v : View sig κ sp (⟨2, ![n0, n1]⟩ : Shape) e) (f : v.ty.Contents Val)
    {off : Fin 2 → ℕ} (inb : ∀ a : Fin 2, off a + (![s0, s1] : Fin 2 → ℕ) a ≤ (![n0, n1] : Fin 2 → ℕ) a)
    (w : (⟨2, ![s0, s1]⟩ : Shape).Idx → Val e) (L : List (View.Piece Val (⟨2, ![n0, n1]⟩ : Shape) e))
    (ho : off = ![o0, o1]) (j0 j1 : ℕ) (h : (j0 < o0 ∨ o0 + s0 ≤ j0) ∨ (j1 < o1 ∨ o1 + s1 ≤ j1)) :
    rd (v.read Val (v.writes Val f ((⟨Rect.unit (s := (⟨2, ![n0, n1]⟩ : Shape)) off ![s0, s1] inb, w⟩ :
        View.Piece Val (⟨2, ![n0, n1]⟩ : Shape) e) :: L))) ![j0, j1] = rd (v.read Val (v.writes Val f L)) ![j0, j1] := by
  subst ho
  rcases h with h | h
  · exact rd_write_out v f inb w L _ 0 h
  · exact rd_write_out v f inb w L _ 1 h

theorem rd_store3_in {n0 n1 n2 s0 s1 s2 o0 o1 o2 : ℕ} (v : View sig κ sp (⟨3, ![n0, n1, n2]⟩ : Shape) e)
    (f : v.ty.Contents Val) {off : Fin 3 → ℕ}
    (inb : ∀ a : Fin 3, off a + (![s0, s1, s2] : Fin 3 → ℕ) a ≤ (![n0, n1, n2] : Fin 3 → ℕ) a)
    (w : (⟨3, ![s0, s1, s2]⟩ : Shape).Idx → Val e) (L : List (View.Piece Val (⟨3, ![n0, n1, n2]⟩ : Shape) e))
    (ho : off = ![o0, o1, o2]) (i0 i1 i2 j0 j1 j2 : ℕ) (h0 : i0 < s0) (h1 : i1 < s1) (h2 : i2 < s2)
    (e0 : j0 = o0 + i0) (e1 : j1 = o1 + i1) (e2 : j2 = o2 + i2) :
    rd (v.read Val (v.writes Val f ((⟨Rect.unit (s := (⟨3, ![n0, n1, n2]⟩ : Shape)) off ![s0, s1, s2] inb, w⟩ :
        View.Piece Val (⟨3, ![n0, n1, n2]⟩ : Shape) e) :: L))) ![j0, j1, j2] = rd w ![i0, i1, i2] := by
  subst ho e0 e1 e2
  exact rd_write_in v f inb w L _ _ (forall3 h0 h1 h2) (forall3 rfl rfl rfl)

theorem rd_store3_out {n0 n1 n2 s0 s1 s2 o0 o1 o2 : ℕ} (v : View sig κ sp (⟨3, ![n0, n1, n2]⟩ : Shape) e)
    (f : v.ty.Contents Val) {off : Fin 3 → ℕ}
    (inb : ∀ a : Fin 3, off a + (![s0, s1, s2] : Fin 3 → ℕ) a ≤ (![n0, n1, n2] : Fin 3 → ℕ) a)
    (w : (⟨3, ![s0, s1, s2]⟩ : Shape).Idx → Val e) (L : List (View.Piece Val (⟨3, ![n0, n1, n2]⟩ : Shape) e))
    (ho : off = ![o0, o1, o2]) (j0 j1 j2 : ℕ)
    (h : (j0 < o0 ∨ o0 + s0 ≤ j0) ∨ (j1 < o1 ∨ o1 + s1 ≤ j1) ∨ (j2 < o2 ∨ o2 + s2 ≤ j2)) :
    rd (v.read Val (v.writes Val f ((⟨Rect.unit (s := (⟨3, ![n0, n1, n2]⟩ : Shape)) off ![s0, s1, s2] inb, w⟩ :
        View.Piece Val (⟨3, ![n0, n1, n2]⟩ : Shape) e) :: L))) ![j0, j1, j2]
      = rd (v.read Val (v.writes Val f L)) ![j0, j1, j2] := by
  subst ho
  rcases h with h | h | h
  · exact rd_write_out v f inb w L _ 0 h
  · exact rd_write_out v f inb w L _ 1 h
  · exact rd_write_out v f inb w L _ 2 h

end Memory

/-- A supremum over `n + m` numbers is the larger of the first `n`'s and the next `m`'s. -/
theorem sup_range_add (n m : ℕ) (f : ℕ → EReal) :
    (Finset.range (n + m)).sup f = max ((Finset.range n).sup f) ((Finset.range m).sup fun j => f (n + j)) := by
  apply le_antisymm
  · refine Finset.sup_le fun j hj => ?_
    rw [Finset.mem_range] at hj
    by_cases h : j < n
    · exact le_max_of_le_left (Finset.le_sup (f := f) (Finset.mem_range.mpr h))
    · refine le_max_of_le_right ?_
      have := Finset.le_sup (f := fun j => f (n + j)) (Finset.mem_range.mpr (show j - n < m by omega))
      simpa [show n + (j - n) = j by omega] using this
  · refine max_le (Finset.sup_le fun j hj => ?_) (Finset.sup_le fun j hj => ?_)
    · rw [Finset.mem_range] at hj
      exact Finset.le_sup (f := f) (Finset.mem_range.mpr (by omega))
    · rw [Finset.mem_range] at hj
      exact Finset.le_sup (f := f) (Finset.mem_range.mpr (show n + j < n + m by omega))

theorem sup_range_congr {n : ℕ} {f g : ℕ → EReal} (h : ∀ j, j < n → f j = g j) :
    (Finset.range n).sup f = (Finset.range n).sup g :=
  Finset.sup_congr rfl fun j hj => h j (Finset.mem_range.mp hj)

theorem sum_range_congr {n : ℕ} {f g : ℕ → EReal} (h : ∀ j, j < n → f j = g j) :
    ∑ j ∈ Finset.range n, f j = ∑ j ∈ Finset.range n, g j :=
  Finset.sum_congr rfl fun j hj => h j (Finset.mem_range.mp hj)

end Cert.Attn

end
-- ==== Proof.Payloads.lean ====
/-
  What the kernel's named vector expressions hold at each entry over the extended reals: products of scores, running
  maxima, exponentials, sums and the value product, written with the natural-coordinate reading of their operands.
-/
module

public import proofs.«01_k».proof.Proof.Read
public import proofs.«01_k».proof.Proof.Gen.KernelIdeal.Skeleton
public import Idealize.ShloMosaic.Lib.Pointwise
public import Idealize.ShloMosaic.Lib.WordCmp

@[expose] public section

set_option maxRecDepth 16384

noncomputable section

namespace Cert.Attn

open Idealize.ShloMosaic Cert.KernelIdeal Cert.KernelIdeal.Gen

/-- The factor the kernel folds into the query scales: one over the root of the head width, in base-two logarithms. -/
def cK : EReal := (((Real.sqrt 128)⁻¹ * (Real.log 2)⁻¹ : ℝ) : EReal)

theorem named_sm : Named.named (F := Ideal) (φ := .f32) κ "sm_log2" 0x3E0293EE#32 = cK :=
  IdealRules.named_const.ideal_named_scalar _ _ _ _ rfl

theorem named_neg : Named.named (F := Ideal) (φ := .f32) κ "neg" 0xF149F2CA#32 = (⊥ : EReal) :=
  IdealRules.named_const.ideal_named_scalar _ _ _ _ rfl

theorem bits_neg_inf : Ideal.ofBits FTy.f32 0xFF800000#32 = (⊥ : EReal) := by
  simp [Ideal.ofBits, Ideal.ieee]

theorem rd2 {α : Type} [Zero α] {n0 n1 : ℕ} (x : (⟨2, ![n0, n1]⟩ : Shape).Idx → α) (a : Fin n0) (b : Fin n1) :
    x (ix2 a b) = rd x ![(a : ℕ), (b : ℕ)] :=
  (rd_of x _ _ (Fin.forall_fin_two.mpr ⟨rfl, rfl⟩)).symm

theorem rd3 {α : Type} [Zero α] {n0 n1 n2 : ℕ} (x : (⟨3, ![n0, n1, n2]⟩ : Shape).Idx → α) (a : Fin n0) (b : Fin n1)
    (c : Fin n2) : x (ix3 a b c) = rd x ![(a : ℕ), (b : ℕ), (c : ℕ)] :=
  (rd_of x _ _ (by intro t; match t with | ⟨0, _⟩ => rfl | ⟨1, _⟩ => rfl | ⟨2, _⟩ => rfl)).symm

/-- A maximum folded over all of `Fin n` is the supremum over the naturals below `n`. -/
theorem fold_max_range (n : ℕ) (f : Fin n → EReal) (g : ℕ → EReal) (h : ∀ i : Fin n, f i = g i) :
    Finset.fold max (⊥ : EReal) f Finset.univ = (Finset.range n).sup g := by
  have h1 : Finset.fold max (⊥ : EReal) f Finset.univ = Finset.univ.sup f := rfl
  rw [h1]
  apply le_antisymm
  · refine Finset.sup_le fun i _ => ?_
    rw [h i]
    exact Finset.le_sup (f := g) (Finset.mem_range.mpr i.isLt)
  · refine Finset.sup_le fun i hi => ?_
    have := h ⟨i, Finset.mem_range.mp hi⟩
    rw [show g i = f ⟨i, Finset.mem_range.mp hi⟩ from this.symm]
    exact Finset.le_sup (f := f) (Finset.mem_univ _)

theorem sum_fin_range (n : ℕ) (f : Fin n → EReal) (g : ℕ → EReal) (h : ∀ i : Fin n, f i = g i) :
    ∑ i, f i = ∑ i ∈ Finset.range n, g i := by
  rw [Finset.sum_range]; exact Finset.sum_congr rfl fun i _ => h i

/-- One score in base-two logarithms: the key row against the query row, times the key's scale and the query's. -/
def term (q : S1x256x128.Idx → EReal) (qs : S1x1x256.Idx → EReal) (kk kb : S1x256x128.Idx → EReal) (j r : ℕ) : EReal :=
  (∑ d : Fin 128, rd kk ![0, j, (d : ℕ)] * rd q ![0, r, (d : ℕ)]) * rd kb ![0, j, r % 128] * (rd qs ![0, 0, r] * cK)

/-- The row maximum with a tile of scores taken in. -/
def mx2 (v76 : S1x256.Idx → EReal) (v92 : S256x256.Idx → EReal) (r : ℕ) : EReal :=
  max (rd v76 ![0, r]) ((Finset.range 256).sup fun j => rd v92 ![j, r])

theorem pay9_at (v62 : Vec Ideal S1x256x128 .fp8e4m3) (v65 : Vec Ideal S1x1x256 .f32) (v128 : Vec Ideal S1x256x128 .fp8e4m3)
    (v132 : Vec Ideal S1x256x128 .f32) (j r : Fin 256) :
    k0_pay9 (F := Ideal) v62 v65 v128 v132 (ix2 j r) = term v62 v65 v128 v132 j r := by
  pointwise [k0_pay9, k0_pay6, k0_pay7]
  rw [named_sm]
  unfold term
  by_cases h : (r : ℕ) < 128
  · rw [dif_pos h]
    simp only [rd3, Nat.mod_eq_of_lt h]
    rfl
  · rw [dif_neg h]
    have h2 : (r : ℕ) % 128 = r - 128 := by have := r.isLt; omega
    simp only [rd3, h2]
    rfl

theorem pay10_rd (v62 : Vec Ideal S1x256x128 .fp8e4m3) (v65 : Vec Ideal S1x1x256 .f32) (v128 : Vec Ideal S1x256x128 .fp8e4m3)
    (v132 : Vec Ideal S1x256x128 .f32) (j r : ℕ) (hj : j < 256) (hr : r < 256) :
    rd (k0_pay10 (F := Ideal) v62 v65 v128 v132) ![j, r] = term v62 v65 v128 v132 j r := by
  have e := rd2 (k0_pay10 (F := Ideal) v62 v65 v128 v132) ⟨j, hj⟩ ⟨r, hr⟩
  refine e.symm.trans ?_
  pointwise [k0_pay10]
  exact pay9_at v62 v65 v128 v132 ⟨j, hj⟩ ⟨r, hr⟩

theorem pay11_rd (v62 : Vec Ideal S1x256x128 .fp8e4m3) (v65 : Vec Ideal S1x1x256 .f32) (a : FVec Ideal S1x256 .f32)
    (v128 : Vec Ideal S1x256x128 .fp8e4m3) (v132 : Vec Ideal S1x256x128 .f32) (r : ℕ) (hr : r < 256) :
    rd (k0_pay11 (F := Ideal) v62 v65 a v128 v132) ![0, r]
      = max (rd a ![0, r]) ((Finset.range 256).sup fun j => term v62 v65 v128 v132 j r) := by
  have e := rd2 (k0_pay11 (F := Ideal) v62 v65 a v128 v132) 0 ⟨r, hr⟩
  refine e.symm.trans ?_
  pointwise [k0_pay11]
  rw [bits_neg_inf, rd2 a]
  exact congrArg _ (fold_max_range 256 _ _ fun j => pay9_at v62 v65 v128 v132 j ⟨r, hr⟩)

theorem pay15_rd (v3 v4 : IVec S256x256 32) (h3 : v3 = iota .tc S256x256 32 [0] iota_S256x256_d0_w32)
    (h4 : v4 = iota .tc S256x256 32 [1] iota_S256x256_d1_w32)
    (v62 : Vec Ideal S1x256x128 .fp8e4m3) (v65 : Vec Ideal S1x1x256 .f32) (v128 : Vec Ideal S1x256x128 .fp8e4m3)
    (v132 : Vec Ideal S1x256x128 .f32) (j r : ℕ) (hj : j < 256) (hr : r < 256) :
    rd (k0_pay15 (F := Ideal) v3 v4 v62 v65 v128 v132) ![j, r]
      = if j ≤ r then term v62 v65 v128 v132 j r else ⊥ := by
  subst h3 h4
  have e := rd2 (k0_pay15 (F := Ideal) (iota .tc S256x256 32 [0] iota_S256x256_d0_w32)
    (iota .tc S256x256 32 [1] iota_S256x256_d1_w32) v62 v65 v128 v132) ⟨j, hj⟩ ⟨r, hr⟩
  refine e.symm.trans ?_
  have h9 := pay9_at v62 v65 v128 v132 ⟨j, hj⟩ ⟨r, hr⟩
  pointwise [k0_pay9, k0_pay6, k0_pay7] at h9
  pointwise [k0_pay15, k0_pay6, k0_pay7]
  rw [named_neg]
  rw [WordCmp.cmpi_sle_ofNat (by omega) (by omega), WordCmp.select_ofBool]
  simp only [decide_eq_true_eq]
  rw [named_sm] at h9 ⊢
  rw [← h9]

theorem pay16_eq (v3 v4 : IVec S256x256 32) (v62 : Vec Ideal S1x256x128 .fp8e4m3) (v65 : Vec Ideal S1x1x256 .f32)
    (v128 : Vec Ideal S1x256x128 .fp8e4m3) (v132 : Vec Ideal S1x256x128 .f32) :
    k0_pay16 (F := Ideal) v3 v4 v62 v65 v128 v132 = k0_pay15 (F := Ideal) v3 v4 v62 v65 v128 v132 :=
  shapeCast_self ..

theorem pay8_rd (r : ℕ) (hr : r < 256) : rd (k0_pay8 (F := Ideal)) ![0, r] = ⊥ := by
  have e := rd2 (k0_pay8 (F := Ideal)) 0 ⟨r, hr⟩
  refine e.symm.trans ?_
  pointwise [k0_pay8]
  exact named_neg

theorem pay32_at (v76 : FVec Ideal S1x256 .f32) (v92 : FVec Ideal S256x256 .f32) (v128 : Vec Ideal S256x256 .f32)
    (j r : Fin 256) :
    k0_pay32 (F := Ideal) v76 v92 v128 (ix2 j r) = Ideal.exp2 (rd v128 ![(j : ℕ), (r : ℕ)] - mx2 v76 v92 r) := by
  pointwise [k0_pay32, k0_pay30]
  rw [bits_neg_inf]
  unfold mx2
  rw [rd2 v128, rd2 v76]
  rw [fold_max_range 256 _ (fun x => rd v92 ![x, (r : ℕ)]) fun x => rd2 v92 x r]
  rfl

theorem pay33_rd (v76 : FVec Ideal S1x256 .f32) (v92 : FVec Ideal S256x256 .f32) (v128 : Vec Ideal S256x256 .f32)
    (j r : ℕ) (hj : j < 256) (hr : r < 256) :
    rd (k0_pay33 (F := Ideal) v76 v92 v128) ![j, r] = Ideal.exp2 (rd v128 ![j, r] - mx2 v76 v92 r) := by
  have e := rd2 (k0_pay33 (F := Ideal) v76 v92 v128) ⟨j, hj⟩ ⟨r, hr⟩
  refine e.symm.trans ?_
  pointwise [k0_pay33]
  exact pay32_at v76 v92 v128 ⟨j, hj⟩ ⟨r, hr⟩

theorem pay34_rd (v76 : FVec Ideal S1x256 .f32) (v92 : FVec Ideal S256x256 .f32) (a : FVec Ideal S1x256 .f32)
    (v128 : Vec Ideal S256x256 .f32) (r : ℕ) (hr : r < 256) :
    rd (k0_pay34 (F := Ideal) v76 v92 a v128) ![0, r]
      = rd a ![0, r] + ∑ j ∈ Finset.range 256, Ideal.exp2 (rd v128 ![j, r] - mx2 v76 v92 r) := by
  have e := rd2 (k0_pay34 (F := Ideal) v76 v92 a v128) 0 ⟨r, hr⟩
  refine e.symm.trans ?_
  pointwise [k0_pay34]
  rw [rd2 a]
  exact congrArg _ (sum_fin_range 256 _ _ fun j => pay32_at v76 v92 v128 j ⟨r, hr⟩)

theorem pay31_rd (r : ℕ) (hr : r < 256) : rd (k0_pay31 (F := Ideal)) ![0, r] = 0 := by
  have e := rd2 (k0_pay31 (F := Ideal)) 0 ⟨r, hr⟩
  refine e.symm.trans ?_
  pointwise [k0_pay31]

theorem pay39_rd (d r : ℕ) (hd : d < 128) (hr : r < 256) : rd (k0_pay39 (F := Ideal)) ![d, r] = 0 := by
  have e := rd2 (k0_pay39 (F := Ideal)) ⟨d, hd⟩ ⟨r, hr⟩
  refine e.symm.trans ?_
  pointwise [k0_pay39]

theorem pay40_rd (v108 : FVec Ideal S1x256 .f32) (a : FVec Ideal S128x256 .f32) (v128 : Vec Ideal S256x256 .f32)
    (v133 : Vec Ideal S1x128x256 .bf16) (d r : ℕ) (hd : d < 128) (hr : r < 256) :
    rd (k0_pay40 (F := Ideal) v108 a v128 v133) ![d, r]
      = rd a ![d, r]
        + ∑ j ∈ Finset.range 256, rd v133 ![0, d, j] * (rd v128 ![j, r] * Ideal.div 1 (rd v108 ![0, r])) := by
  have e := rd2 (k0_pay40 (F := Ideal) v108 a v128 v133) ⟨d, hd⟩ ⟨r, hr⟩
  refine e.symm.trans ?_
  pointwise [k0_pay40, k0_pay38]
  rw [rd2 a]
  refine congrArg _ (sum_fin_range 256 _ _ fun j => ?_)
  rw [rd3 v133, rd2 v128, rd2 v108]
  rfl

theorem pay42_rd (v119 : FVec Ideal S128x256 .f32) (r d : ℕ) (hr : r < 256) (hd : d < 128) :
    rd (k0_pay42 (F := Ideal) v119) ![r, d] = rd v119 ![d, r] := by
  have e := rd2 (k0_pay42 (F := Ideal) v119) ⟨r, hr⟩ ⟨d, hd⟩
  refine e.symm.trans ?_
  pointwise [k0_pay42]
  exact rd2 v119 _ _

theorem pay20_at (v62 : Vec Ideal S1x256x128 .fp8e4m3) (v65 : Vec Ideal S1x1x256 .f32) (v128 : Vec Ideal S1x256x128 .fp8e4m3)
    (v132 : Vec Ideal S1x256x128 .f32) (j r : Fin 256) :
    k0_pay20 (F := Ideal) v62 v65 v128 v132 (ix2 j r) = term v62 v65 v128 v132 j r := by
  pointwise [k0_pay20, k0_pay17, k0_pay18]
  rw [named_sm]
  unfold term
  by_cases h : (r : ℕ) < 128
  · rw [dif_pos h]
    simp only [rd3, Nat.mod_eq_of_lt h]
    rfl
  · rw [dif_neg h]
    have h2 : (r : ℕ) % 128 = r - 128 := by have := r.isLt; omega
    simp only [rd3, h2]
    rfl

theorem pay21_rd (v62 : Vec Ideal S1x256x128 .fp8e4m3) (v65 : Vec Ideal S1x1x256 .f32) (v128 : Vec Ideal S1x256x128 .fp8e4m3)
    (v132 : Vec Ideal S1x256x128 .f32) (j r : ℕ) (hj : j < 256) (hr : r < 256) :
    rd (k0_pay21 (F := Ideal) v62 v65 v128 v132) ![j, r] = term v62 v65 v128 v132 j r := by
  have e := rd2 (k0_pay21 (F := Ideal) v62 v65 v128 v132) ⟨j, hj⟩ ⟨r, hr⟩
  refine e.symm.trans ?_
  pointwise [k0_pay21]
  exact pay20_at v62 v65 v128 v132 ⟨j, hj⟩ ⟨r, hr⟩

theorem pay22_rd (v62 : Vec Ideal S1x256x128 .fp8e4m3) (v65 : Vec Ideal S1x1x256 .f32) (a : FVec Ideal S1x256 .f32)
    (v128 : Vec Ideal S1x256x128 .fp8e4m3) (v132 : Vec Ideal S1x256x128 .f32) (r : ℕ) (hr : r < 256) :
    rd (k0_pay22 (F := Ideal) v62 v65 a v128 v132) ![0, r]
      = max (rd a ![0, r]) ((Finset.range 256).sup fun j => term v62 v65 v128 v132 j r) := by
  have e := rd2 (k0_pay22 (F := Ideal) v62 v65 a v128 v132) 0 ⟨r, hr⟩
  refine e.symm.trans ?_
  pointwise [k0_pay22]
  rw [bits_neg_inf, rd2 a]
  exact congrArg _ (fold_max_range 256 _ _ fun j => pay20_at v62 v65 v128 v132 j ⟨r, hr⟩)

theorem pay26_rd (v3 v4 : IVec S256x256 32) (h3 : v3 = iota .tc S256x256 32 [0] iota_S256x256_d0_w32)
    (h4 : v4 = iota .tc S256x256 32 [1] iota_S256x256_d1_w32)
    (v62 : Vec Ideal S1x256x128 .fp8e4m3) (v65 : Vec Ideal S1x1x256 .f32) (v128 : Vec Ideal S1x256x128 .fp8e4m3)
    (v132 : Vec Ideal S1x256x128 .f32) (j r : ℕ) (hj : j < 256) (hr : r < 256) :
    rd (k0_pay26 (F := Ideal) v3 v4 v62 v65 v128 v132) ![j, r]
      = if j ≤ r then term v62 v65 v128 v132 j r else ⊥ := by
  subst h3 h4
  have e := rd2 (k0_pay26 (F := Ideal) (iota .tc S256x256 32 [0] iota_S256x256_d0_w32)
    (iota .tc S256x256 32 [1] iota_S256x256_d1_w32) v62 v65 v128 v132) ⟨j, hj⟩ ⟨r, hr⟩
  refine e.symm.trans ?_
  have h9 := pay20_at v62 v65 v128 v132 ⟨j, hj⟩ ⟨r, hr⟩
  pointwise [k0_pay20, k0_pay17, k0_pay18] at h9
  pointwise [k0_pay26, k0_pay17, k0_pay18]
  rw [named_neg]
  rw [WordCmp.cmpi_sle_ofNat (by omega) (by omega), WordCmp.select_ofBool]
  simp only [decide_eq_true_eq]
  rw [named_sm] at h9 ⊢
  rw [← h9]

theorem pay27_eq (v3 v4 : IVec S256x256 32) (v62 : Vec Ideal S1x256x128 .fp8e4m3) (v65 : Vec Ideal S1x1x256 .f32)
    (v128 : Vec Ideal S1x256x128 .fp8e4m3) (v132 : Vec Ideal S1x256x128 .f32) :
    k0_pay27 (F := Ideal) v3 v4 v62 v65 v128 v132 = k0_pay26 (F := Ideal) v3 v4 v62 v65 v128 v132 :=
  shapeCast_self ..

theorem pay19_rd (r : ℕ) (hr : r < 256) : rd (k0_pay19 (F := Ideal)) ![0, r] = ⊥ := by
  have e := rd2 (k0_pay19 (F := Ideal)) 0 ⟨r, hr⟩
  refine e.symm.trans ?_
  pointwise [k0_pay19]
  exact named_neg

theorem pay45_at (v76 : FVec Ideal S1x256 .f32) (v92 : FVec Ideal S256x256 .f32) (v128 : Vec Ideal S256x256 .f32)
    (j r : Fin 256) :
    k0_pay45 (F := Ideal) v76 v92 v128 (ix2 j r) = Ideal.exp2 (rd v128 ![(j : ℕ), (r : ℕ)] - mx2 v76 v92 r) := by
  pointwise [k0_pay45, k0_pay43]
  rw [bits_neg_inf]
  unfold mx2
  rw [rd2 v128, rd2 v76]
  rw [fold_max_range 256 _ (fun x => rd v92 ![x, (r : ℕ)]) fun x => rd2 v92 x r]
  rfl

theorem pay46_rd (v76 : FVec Ideal S1x256 .f32) (v92 : FVec Ideal S256x256 .f32) (v128 : Vec Ideal S256x256 .f32)
    (j r : ℕ) (hj : j < 256) (hr : r < 256) :
    rd (k0_pay46 (F := Ideal) v76 v92 v128) ![j, r] = Ideal.exp2 (rd v128 ![j, r] - mx2 v76 v92 r) := by
  have e := rd2 (k0_pay46 (F := Ideal) v76 v92 v128) ⟨j, hj⟩ ⟨r, hr⟩
  refine e.symm.trans ?_
  pointwise [k0_pay46]
  exact pay45_at v76 v92 v128 ⟨j, hj⟩ ⟨r, hr⟩

theorem pay47_rd (v76 : FVec Ideal S1x256 .f32) (v92 : FVec Ideal S256x256 .f32) (a : FVec Ideal S1x256 .f32)
    (v128 : Vec Ideal S256x256 .f32) (r : ℕ) (hr : r < 256) :
    rd (k0_pay47 (F := Ideal) v76 v92 a v128) ![0, r]
      = rd a ![0, r] + ∑ j ∈ Finset.range 256, Ideal.exp2 (rd v128 ![j, r] - mx2 v76 v92 r) := by
  have e := rd2 (k0_pay47 (F := Ideal) v76 v92 a v128) 0 ⟨r, hr⟩
  refine e.symm.trans ?_
  pointwise [k0_pay47]
  rw [rd2 a]
  exact congrArg _ (sum_fin_range 256 _ _ fun j => pay45_at v76 v92 v128 j ⟨r, hr⟩)

theorem pay44_rd (r : ℕ) (hr : r < 256) : rd (k0_pay44 (F := Ideal)) ![0, r] = 0 := by
  have e := rd2 (k0_pay44 (F := Ideal)) 0 ⟨r, hr⟩
  refine e.symm.trans ?_
  pointwise [k0_pay44]

theorem pay52_rd (d r : ℕ) (hd : d < 128) (hr : r < 256) : rd (k0_pay52 (F := Ideal)) ![d, r] = 0 := by
  have e := rd2 (k0_pay52 (F := Ideal)) ⟨d, hd⟩ ⟨r, hr⟩
  refine e.symm.trans ?_
  pointwise [k0_pay52]

theorem pay53_rd (v108 : FVec Ideal S1x256 .f32) (a : FVec Ideal S128x256 .f32) (v128 : Vec Ideal S256x256 .f32)
    (v133 : Vec Ideal S1x128x256 .bf16) (d r : ℕ) (hd : d < 128) (hr : r < 256) :
    rd (k0_pay53 (F := Ideal) v108 a v128 v133) ![d, r]
      = rd a ![d, r]
        + ∑ j ∈ Finset.range 256, rd v133 ![0, d, j] * (rd v128 ![j, r] * Ideal.div 1 (rd v108 ![0, r])) := by
  have e := rd2 (k0_pay53 (F := Ideal) v108 a v128 v133) ⟨d, hd⟩ ⟨r, hr⟩
  refine e.symm.trans ?_
  pointwise [k0_pay53, k0_pay51]
  rw [rd2 a]
  refine congrArg _ (sum_fin_range 256 _ _ fun j => ?_)
  rw [rd3 v133, rd2 v128, rd2 v108]
  rfl

theorem pay55_rd (v119 : FVec Ideal S128x256 .f32) (r d : ℕ) (hr : r < 256) (hd : d < 128) :
    rd (k0_pay55 (F := Ideal) v119) ![r, d] = rd v119 ![d, r] := by
  have e := rd2 (k0_pay55 (F := Ideal) v119) ⟨r, hr⟩ ⟨d, hd⟩
  refine e.symm.trans ?_
  pointwise [k0_pay55]
  exact rd2 v119 _ _

theorem pay3_rd (v61 : Vec Ideal S1x128x128 .fp8e4m3) (v66 : Vec Ideal S1x1x128 .f32) (d j : ℕ) (hd : d < 128) (hj : j < 128) :
    rd (k0_pay3 (F := Ideal) v61 v66) ![0, d, j] = rd v61 ![0, j, d] * rd v66 ![0, 0, j] := by
  have e := rd3 (k0_pay3 (F := Ideal) v61 v66) 0 ⟨d, hd⟩ ⟨j, hj⟩
  refine e.symm.trans ?_
  pointwise [k0_pay3]
  rw [rd3 v61, rd3 v66]
  rfl

theorem pay28_rd (v86 : Vec Ideal S1x128x128 .fp8e4m3) (v91 : Vec Ideal S1x1x128 .f32) (d j : ℕ) (hd : d < 128) (hj : j < 128) :
    rd (k0_pay28 (F := Ideal) (k0_pay5 v86 v91)) ![0, d, j] = rd v86 ![0, j, d] * rd v91 ![0, 0, j] := by
  have e := rd3 (k0_pay28 (F := Ideal) (k0_pay5 v86 v91)) 0 ⟨d, hd⟩ ⟨j, hj⟩
  refine e.symm.trans ?_
  pointwise [k0_pay28, k0_pay5]
  rw [rd3 v86, rd3 v91]
  rfl

theorem pay4_rd (v76 : Vec Ideal S1x1x128 .f32) (j l : ℕ) (hj : j < 128) (hl : l < 128) :
    rd (k0_pay4 (F := Ideal) v76) ![0, j, l] = rd v76 ![0, 0, j] := by
  have e := rd3 (k0_pay4 (F := Ideal) v76) 0 ⟨j, hj⟩ ⟨l, hl⟩
  refine e.symm.trans ?_
  pointwise [k0_pay4]
  exact rd3 v76 _ _ _

theorem pay29_rd (v76 : Vec Ideal S1x1x128 .f32) (j l : ℕ) (hj : j < 128) (hl : l < 128) :
    rd (k0_pay29 (F := Ideal) v76) ![0, j, l] = rd v76 ![0, 0, j] := by
  have e := rd3 (k0_pay29 (F := Ideal) v76) 0 ⟨j, hj⟩ ⟨l, hl⟩
  refine e.symm.trans ?_
  pointwise [k0_pay29]
  exact rd3 v76 _ _ _

end Cert.Attn

end
-- ==== Proof.Tile.lean ====
/-
  The kernel's per-tile steps as plain statements about buffers read at natural coordinates: a tile of scores stored
  under the ones before it, the running maximum, the exponentials that replace the scores, their sum, and the
  value product — each extended by one tile of 256 keys.
-/
module

public import proofs.«01_k».proof.Proof.Boxes
public import proofs.«01_k».proof.Proof.Payloads

@[expose] public section

noncomputable section

namespace Cert.Attn

open Idealize.ShloMosaic Cert.KernelIdeal Cert.KernelIdeal.Gen

/-- The first `n` rows of the score buffer hold `f`. -/
def Scored (p : S8192x256.Idx → EReal) (f : ℕ → ℕ → EReal) (n : ℕ) : Prop :=
  ∀ j r, j < n → r < 256 → rd p ![j, r] = f j r

/-- The rows of the score buffer from `m` to `n` hold `f`. -/
def ScoredFrom (p : S8192x256.Idx → EReal) (f : ℕ → ℕ → EReal) (m n : ℕ) : Prop :=
  ∀ j r, m ≤ j → j < n → r < 256 → rd p ![j, r] = f j r

/-- A row vector holds the largest of the first `n` values of each column of `f`. -/
def RowMax (a : S1x256.Idx → EReal) (f : ℕ → ℕ → EReal) (n : ℕ) : Prop :=
  ∀ r, r < 256 → rd a ![0, r] = (Finset.range n).sup fun j => f j r

/-- A row vector holds the sum of the first `n` values of each column of `f`. -/
def RowSum (a : S1x256.Idx → EReal) (f : ℕ → ℕ → EReal) (n : ℕ) : Prop :=
  ∀ r, r < 256 → rd a ![0, r] = ∑ j ∈ Finset.range n, f j r

/-- An accumulator holds the sum over the first `n` keys of `f d j r`. -/
def ColSum (a : S128x256.Idx → EReal) (f : ℕ → ℕ → ℕ → EReal) (n : ℕ) : Prop :=
  ∀ d r, d < 128 → r < 256 → rd a ![d, r] = ∑ j ∈ Finset.range n, f d j r

/-- The score of key `j` for row `r` of the query tile, from the key and key-scale buffers of group `g`. -/
def sc (x4 : S1x8192x256.Idx → EReal) (x11 : S2x8192x128.Idx → EReal) (g : ℕ) (q : S1x256x128.Idx → EReal)
    (qs : S1x1x256.Idx → EReal) (j r : ℕ) : EReal :=
  (∑ d : Fin 128, rd x4 ![0, j, 128 * g + (d : ℕ)] * rd q ![0, r, (d : ℕ)]) * rd x11 ![g, j, r % 128]
    * (rd qs ![0, 0, r] * cK)

/-- The score with the keys after the query's own position left out. -/
def sm (x4 : S1x8192x256.Idx → EReal) (x11 : S2x8192x128.Idx → EReal) (g : ℕ) (q : S1x256x128.Idx → EReal)
    (qs : S1x1x256.Idx → EReal) (qi j r : ℕ) : EReal :=
  if j ≤ 256 * qi + r then sc x4 x11 g q qs j r else ⊥

variable {κ : Kind} {sp4 sp10 sp11 sp13 : Space}

theorem term_load (v4 : View sig κ sp4 S1x8192x256 .fp8e4m3) (v11 : View sig κ sp11 S2x8192x128 .f32)
    (f4 : v4.ty.Contents (Elt Ideal)) (f11 : v11.ty.Contents (Elt Ideal)) {off4 off11 : Fin 3 → ℕ}
    (inb4 : ∀ a, off4 a + S1x256x128.size a ≤ S1x8192x256.size a)
    (inb11 : ∀ a, off11 a + S1x256x128.size a ≤ S2x8192x128.size a) {o : ℕ} (g : ℕ)
    (h4 : off4 = ![0, o, 128 * g]) (h11 : off11 = ![g, o, 0])
    (q : S1x256x128.Idx → EReal) (qs : S1x1x256.Idx → EReal) (j r : ℕ) (hj : j < 256) (hr : r < 256) :
    term q qs (v4.readAt (Elt Ideal) (Rect.unit (s := S1x8192x256) off4 S1x256x128.size inb4).toLoadRect f4)
        (v11.readAt (Elt Ideal) (Rect.unit (s := S2x8192x128) off11 S1x256x128.size inb11).toLoadRect f11) j r
      = sc (v4.read (Elt Ideal) f4) (v11.read (Elt Ideal) f11) g q qs (o + j) r := by
  unfold term sc
  have e11 := rd_load3 v11 f11 inb11 h11 0 j (r % 128) (by omega) hj (Nat.mod_lt _ (by omega))
  simp only [Nat.zero_add, Nat.add_zero] at e11
  rw [e11]
  congr 2
  refine Finset.sum_congr rfl fun d _ => ?_
  have e4 := rd_load3 v4 f4 inb4 h4 0 j (d : ℕ) (by omega) hj d.isLt
  simp only [Nat.zero_add, Nat.add_zero] at e4
  rw [e4]

theorem Scored.store {v : View sig κ sp13 S8192x256 .f32} {f : v.ty.Contents (Elt Ideal)} {s : ℕ → ℕ → EReal}
    {o n : ℕ} (h : Scored (v.read (Elt Ideal) f) s o) {off : Fin 2 → ℕ}
    (inb : ∀ a, off a + S256x256.size a ≤ S8192x256.size a) (ho : off = ![o, 0]) {w : S256x256.Idx → EReal}
    (hw : ∀ j r, j < 256 → r < 256 → rd w ![j, r] = s (o + j) r) (hn : n = o + 256) :
    Scored (v.read (Elt Ideal) (v.writes (Elt Ideal) f [⟨Rect.unit (s := S8192x256) off S256x256.size inb, w⟩])) s n := by
  intro j r hj hr
  by_cases hjo : j < o
  · exact (rd_store2_out v f inb w [] ho j r (.inl (.inl hjo))).trans (h j r hjo hr)
  · refine (rd_store2_in v f inb w [] ho (j - o) r j r (by omega) hr (by omega) (by omega)).trans ?_
    rw [hw (j - o) r (by omega) hr, show o + (j - o) = j by omega]

theorem ScoredFrom.store {v : View sig κ sp13 S8192x256 .f32} {f : v.ty.Contents (Elt Ideal)} {s : ℕ → ℕ → EReal}
    {o n N : ℕ} (h : ScoredFrom (v.read (Elt Ideal) f) s o N) {off : Fin 2 → ℕ}
    (inb : ∀ a, off a + S256x256.size a ≤ S8192x256.size a) (ho : off = ![o, 0]) {w : S256x256.Idx → EReal}
    (hn : n = o + 256) :
    ScoredFrom (v.read (Elt Ideal) (v.writes (Elt Ideal) f [⟨Rect.unit (s := S8192x256) off S256x256.size inb, w⟩])) s n N := by
  intro j r hj hjN hr
  exact (rd_store2_out v f inb w [] ho j r (.inl (.inr (by omega)))).trans (h j r (by omega) hjN hr)

theorem ScoredFrom.load {v : View sig κ sp13 S8192x256 .f32} {f : v.ty.Contents (Elt Ideal)} {s : ℕ → ℕ → EReal}
    {m o N : ℕ} (h : ScoredFrom (v.read (Elt Ideal) f) s m N) {off : Fin 2 → ℕ}
    (inb : ∀ a, off a + S256x256.size a ≤ S8192x256.size a) (ho : off = ![o, 0]) (hm : m ≤ o) (hN : o + 256 ≤ N)
    (j r : ℕ) (hj : j < 256) (hr : r < 256) :
    rd (v.readAt (Elt Ideal) (Rect.unit (s := S8192x256) off S256x256.size inb).toLoadRect f) ![j, r] = s (o + j) r := by
  refine (rd_load2 v f inb ho j r hj hr).trans ?_
  rw [Nat.zero_add]
  exact h (o + j) r (by omega) (by omega) hr

theorem Scored.from {p : S8192x256.Idx → EReal} {s : ℕ → ℕ → EReal} {n : ℕ} (h : Scored p s n) :
    ScoredFrom p s 0 n := fun j r _ hj hr => h j r hj hr

theorem Scored.congr {p : S8192x256.Idx → EReal} {s s' : ℕ → ℕ → EReal} {n : ℕ} (h : Scored p s n)
    (e : ∀ j r, j < n → r < 256 → s j r = s' j r) : Scored p s' n :=
  fun j r hj hr => (h j r hj hr).trans (e j r hj hr)

theorem RowMax.step {a b : S1x256.Idx → EReal} {f : ℕ → ℕ → EReal} {m n : ℕ} (h : RowMax a f m)
    (hb : ∀ r, r < 256 → rd b ![0, r] = max (rd a ![0, r]) ((Finset.range 256).sup fun j => f (m + j) r))
    (hn : n = m + 256) : RowMax b f n := by
  intro r hr
  subst hn
  rw [hb r hr, h r hr, sup_range_add m 256]

theorem RowSum.step {a b : S1x256.Idx → EReal} {f : ℕ → ℕ → EReal} {m n : ℕ} (h : RowSum a f m)
    (hb : ∀ r, r < 256 → rd b ![0, r] = rd a ![0, r] + ∑ j ∈ Finset.range 256, f (m + j) r)
    (hn : n = m + 256) : RowSum b f n := by
  intro r hr
  subst hn
  rw [hb r hr, h r hr, Finset.sum_range_add (fun j => f j r) m 256]

theorem ColSum.step {a b : S128x256.Idx → EReal} {f : ℕ → ℕ → ℕ → EReal} {m n : ℕ} (h : ColSum a f m)
    (hb : ∀ d r, d < 128 → r < 256 → rd b ![d, r] = rd a ![d, r] + ∑ j ∈ Finset.range 256, f d (m + j) r)
    (hn : n = m + 256) : ColSum b f n := by
  intro d r hd hr
  subst hn
  rw [hb d r hd hr, h d r hd hr, Finset.sum_range_add (fun j => f d j r) m 256]

/-- The largest score of row `r` among the keys the query sees. -/
def rmax (s : ℕ → ℕ → EReal) (n r : ℕ) : EReal := (Finset.range n).sup fun j => s j r

/-- The weight of key `j`: two to the score's distance from the row's largest. -/
def wt (s : ℕ → ℕ → EReal) (n j r : ℕ) : EReal := Ideal.exp2 (s j r - rmax s n r)

/-- The sum of a row's weights. -/
def den (s : ℕ → ℕ → EReal) (n r : ℕ) : EReal := ∑ j ∈ Finset.range n, wt s n j r

/-- One key's part of the output: its value times its normalised weight. -/
def part (x10 : S2x128x8192.Idx → EReal) (g : ℕ) (s : ℕ → ℕ → EReal) (n d j r : ℕ) : EReal :=
  rd x10 ![g, d, j] * (wt s n j r * Ideal.div 1 (den s n r))

theorem mx2_eq {v76 : S1x256.Idx → EReal} {v92 : S256x256.Idx → EReal} {s : ℕ → ℕ → EReal} {o n : ℕ}
    (h : RowMax v76 s o) (h92 : ∀ j r, j < 256 → r < 256 → rd v92 ![j, r] = s (o + j) r) (hn : n = o + 256) (r : ℕ)
    (hr : r < 256) : mx2 v76 v92 r = rmax s n r := by
  subst hn
  unfold mx2 rmax
  rw [h r hr, sup_range_add o 256]
  exact congrArg _ (sup_range_congr fun j hj => h92 j r hj hr)

theorem part_load (v10 : View sig κ sp10 S2x128x8192 .bf16) (f10 : v10.ty.Contents (Elt Ideal)) {off : Fin 3 → ℕ}
    (inb : ∀ a, off a + S1x128x256.size a ≤ S2x128x8192.size a) {o : ℕ} (g : ℕ) (ho : off = ![g, 0, o])
    (d j : ℕ) (hd : d < 128) (hj : j < 256) :
    rd (v10.readAt (Elt Ideal) (Rect.unit (s := S2x128x8192) off S1x128x256.size inb).toLoadRect f10) ![0, d, j]
      = rd (v10.read (Elt Ideal) f10) ![g, d, o + j] := by
  have e := rd_load3 v10 f10 inb ho 0 d j (by omega) hd hj
  simp only [Nat.zero_add, Nat.add_zero] at e
  exact e

end Cert.Attn

end
-- ==== Proof.Heads.lean ====
/-
  The output of one attention head from the buffers of a grid point, and the state kept between heads.
-/
module

public import proofs.«01_k».proof.Proof.Tile
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The masked score of head `hh`, group `g`: key `j` against row `r` of query tile `qi`, from the buffers. -/
def hs (x2 : S1x256x2048.Idx → EReal) (x3 : S1x16x256.Idx → EReal) (x4 : S1x8192x256.Idx → EReal)
    (x11 : S2x8192x128.Idx → EReal) (g hh qi j r : ℕ) : EReal :=
  if j ≤ 256 * qi + r then
    (∑ d : Fin 128, rd x4 ![0, j, 128 * g + (d : ℕ)] * rd x2 ![0, r, 128 * hh + (d : ℕ)]) * rd x11 ![g, j, r % 128]
      * (rd x3 ![0, hh, r] * cK)
  else ⊥

/-- The output of head `hh` before it is quantised: row `r`, lane `d`. -/
def hout (x2 : S1x256x2048.Idx → EReal) (x3 : S1x16x256.Idx → EReal) (x4 : S1x8192x256.Idx → EReal)
    (x10 : S2x128x8192.Idx → EReal) (x11 : S2x8192x128.Idx → EReal) (hh qi r d : ℕ) : EReal :=
  ∑ j ∈ Finset.range (256 * qi + 256), part x10 (hh / 8) (hs x2 x3 x4 x11 (hh / 8) hh qi) (256 * qi + 256) d j r

/-- The first `n` heads' columns of the output buffer are done. -/
def Heads (x2 : S1x256x2048.Idx → EReal) (x3 : S1x16x256.Idx → EReal) (x4 : S1x8192x256.Idx → EReal)
    (x10 : S2x128x8192.Idx → EReal) (x11 : S2x8192x128.Idx → EReal) (qi : ℕ) (p : S256x2048.Idx → EReal) (n : ℕ) : Prop :=
  ∀ hh r d, hh < n → r < 256 → d < 128 → rd p ![r, 128 * hh + d] = hout x2 x3 x4 x10 x11 hh qi r d

theorem part_congr (x10 : S2x128x8192.Idx → EReal) (g : ℕ) {s s' : ℕ → ℕ → EReal} {r : ℕ} (h : ∀ j, s j r = s' j r)
    (n d j : ℕ) : part x10 g s n d j r = part x10 g s' n d j r := by
  unfold part den wt rmax
  simp only [h]

theorem Heads.store {x2 : S1x256x2048.Idx → EReal} {x3 : S1x16x256.Idx → EReal} {x4 : S1x8192x256.Idx → EReal}
    {x10 : S2x128x8192.Idx → EReal} {x11 : S2x8192x128.Idx → EReal} {qi n : ℕ} {κ : Kind} {sp : Space}
    {v : View sig κ sp S256x2048 .f32} {f : v.ty.Contents (Elt Ideal)}
    (h : Heads x2 x3 x4 x10 x11 qi (v.read (Elt Ideal) f) n) {off : Fin 2 → ℕ}
    (inb : ∀ a, off a + S256x128.size a ≤ S256x2048.size a) (ho : off = ![0, 128 * n]) {w : S256x128.Idx → EReal}
    (hw : ∀ r d, r < 256 → d < 128 → rd w ![r, d] = hout x2 x3 x4 x10 x11 n qi r d) :
    Heads x2 x3 x4 x10 x11 qi
      (v.read (Elt Ideal) (v.writes (Elt Ideal) f [⟨Rect.unit (s := S256x2048) off S256x128.size inb, w⟩])) (n + 1) := by
  intro hh r d hhn hr hd
  rcases Nat.lt_succ_iff_lt_or_eq.mp hhn with hlt | rfl
  · exact (rd_store2_out v f inb w [] ho r _ (.inr (.inl (by omega)))).trans (h hh r d hlt hr hd)
  · exact (rd_store2_in v f inb w [] ho r d r _ hr hd (by omega) (by omega)).trans (hw r d hr hd)

/-- The prepared buffers hold the scaled values and the key scales of the first `n` keys, for both groups. -/
def Prep (x5 : S1x2x8192.Idx → EReal) (x6 : S1x8192x256.Idx → EReal) (x7 : S1x2x8192.Idx → EReal) (n : ℕ)
    (x10 : S2x128x8192.Idx → EReal) (x11 : S2x8192x128.Idx → EReal) : Prop :=
  ∀ g j, g < 2 → j < n →
    (∀ d, d < 128 → rd x10 ![g, d, j] = rd x6 ![0, j, 128 * g + d] * rd x7 ![0, g, j])
      ∧ ∀ l, l < 128 → rd x11 ![g, j, l] = rd x5 ![0, g, j]

/-- Before head `hh` of the two head loops: the columns of the heads before it are done. -/
def inv2 (c : Dev nD) (arg2 : Memref sig .tc .vmem S1x256x2048 .fp8e4m3) (arg3 : Memref sig .tc .vmem S1x16x256 .f32) (arg4 : Memref sig .tc .vmem S1x8192x256 .fp8e4m3) (arg10 : Memref sig .tc .vmem S2x128x8192 .bf16) (arg11 : Memref sig .tc .vmem S2x8192x128 .f32) (arg12 : Memref sig .tc .vmem S256x2048 .f32) (arg13 : Memref sig .tc .vmem S8192x256 .f32) (X2 : BufTy.Contents (Elt Ideal) arg2.view.ty) (X3 : BufTy.Contents (Elt Ideal) arg3.view.ty) (X4 : BufTy.Contents (Elt Ideal) arg4.view.ty) (X10 : BufTy.Contents (Elt Ideal) arg10.view.ty) (X11 : BufTy.Contents (Elt Ideal) arg11.view.ty)
    (qi hh : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg11.view.loc (c : Thread nD τ) ↦[arg11.view.set]{fullShare} X11)
    ∗ (∃ f12, ⌜Heads (arg2.view.read (Elt Ideal) X2) (arg3.view.read (Elt Ideal) X3) (arg4.view.read (Elt Ideal) X4) (arg10.view.read (Elt Ideal) X10) (arg11.view.read (Elt Ideal) X11) qi (arg12.view.read (Elt Ideal) f12) hh⌝ ∗ (arg12.view.loc (c : Thread nD τ) ↦[arg12.view.set]{fullShare} f12)) ∗ ∃ f13, (arg13.view.loc (c : Thread nD τ) ↦[arg13.view.set]{fullShare} f13))

end Cert.KernelIdeal.Val

end
-- ==== Proof.Group0.lean ====
/-
  One head of the first key-value group: the loop over score tiles, the loop over weights and the value loop, each
  with its invariant, and the head as a whole.
-/
module

public import proofs.«01_k».proof.Proof.Tile
public import proofs.«01_k».proof.Proof.Heads
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips3 : ∀ i : grid0.Coords, (k0_t3_loop i).trips = (i 1).val := by decide +kernel

/-- Before tile `k` of the score loop: the rows of the tiles before it hold their scores, and the carried row the
    largest of them. -/
def inv3 (c : Dev nD) (arg4 : Memref sig .tc .vmem S1x8192x256 .fp8e4m3) (arg11 : Memref sig .tc .vmem S2x8192x128 .f32) (arg13 : Memref sig .tc .vmem S8192x256 .f32) (q : Vec Ideal S1x256x128 .fp8e4m3) (qs : Vec Ideal S1x1x256 .f32) (X4 : BufTy.Contents (Elt Ideal) arg4.view.ty) (X11 : BufTy.Contents (Elt Ideal) arg11.view.ty) (k : ℕ) (acc : FVec Ideal S1x256 .f32) :
    sProp 𝕄 :=
  iprop((arg4.view.loc (c : Thread nD τ) ↦[arg4.view.set]{fullShare} X4) ∗ (arg11.view.loc (c : Thread nD τ) ↦[arg11.view.set]{fullShare} X11) ∗ ∃ f13, ⌜Scored (arg13.view.read (Elt Ideal) f13) (sc (arg4.view.read (Elt Ideal) X4) (arg11.view.read (Elt Ideal) X11) 0 q qs) (256 * k) ∧ RowMax acc (sc (arg4.view.read (Elt Ideal) X4) (arg11.view.read (Elt Ideal) X11) 0 q qs) (256 * k)⌝ ∗ (arg13.view.loc (c : Thread nD τ) ↦[arg13.view.set]{fullShare} f13))

set_option warn.classDefReducibility false in
/-- The score loop keeps its invariant. -/
def loop3 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (k0_t2 : Fin k0_t2_loop.trips) (q : Vec Ideal S1x256x128 .fp8e4m3) (qs : Vec Ideal S1x1x256 .f32) (X4 : BufTy.Contents (Elt Ideal) arg4.view.ty) (X11 : BufTy.Contents (Elt Ideal) arg11.view.ty) :
    LoopInv (M := 𝕄) frame (wpE (defs₀ (F := Ideal)) Variants.none (c : Thread nD τ) none) Set.univ
      (k0_t3_loop i).lb (k0_t3_loop i).ub (k0_t3_loop i).st (k0_t3_ok i) (k0_pay8 (F := Ideal))
      (k0_t3_body (F := Ideal) i arg2 harg2 arg3 harg3 arg4 harg4 arg5 harg5 arg6 harg6 arg7 harg7 arg8 harg8 arg9 harg9 arg10 harg10 arg11 harg11 arg12 harg12 arg13 harg13 arg1 v3 v4 0#32 1#32 k0_t2 q qs) where
  inv := inv3 c arg4 arg11 arg13 q qs X4 X11
  step k acc := by
    unfold inv3
    iintro ⟨H4, H11, ⟨%f13, %hf, H13⟩⟩
    unfold k0_t3_body
    sl_exec
    sl_step
    isplitl [H4]; · iexact H4
    isplitl [H11]; · iexact H11
    iexists _
    isplitr [H13]
    rotate_left
    · iexact H13
    · ipureintro
      have ht := term_load arg4.view arg11.view X4 X11 (k0_off11_inb i k) (k0_off12_inb i k) 0 (k0_off11_eq i k)
        (k0_off12_eq i k) q qs
      refine ⟨hf.1.store (k0_off13_inb i k) (k0_off13_eq i k) (fun j r hj hr => ?_) (by omega),
        hf.2.step (fun r hr => ?_) (by omega)⟩
      · exact (pay10_rd _ _ _ _ j r hj hr).trans (ht j r hj hr)
      · exact (pay11_rd _ _ _ _ _ r hr).trans (congrArg _ (sup_range_congr fun j hj => ht j r hj hr))

/-- The query tile of the head, as loaded. -/
abbrev ldq (arg2 : Memref sig .tc .vmem S1x256x2048 .fp8e4m3) (k : Fin k0_t2_loop.trips) (X2 : BufTy.Contents (Elt Ideal) arg2.view.ty) : Vec Ideal S1x256x128 .fp8e4m3 :=
  (arg2.view.readAt (Elt Ideal) (Rect.unit (s := S1x256x2048) (k0_off9 k) S1x256x128.size (k0_off9_inb k)).toLoadRect X2)

/-- The query scales of the head, as loaded. -/
abbrev ldqs (arg3 : Memref sig .tc .vmem S1x16x256 .f32) (k : Fin k0_t2_loop.trips) (X3 : BufTy.Contents (Elt Ideal) arg3.view.ty) : Vec Ideal S1x1x256 .f32 :=
  (arg3.view.readAt (Elt Ideal) (Rect.unit (s := S1x16x256) (k0_off10 k) S1x1x256.size (k0_off10_inb k)).toLoadRect X3)

theorem trips4 : ∀ i : grid0.Coords, (k0_t4_loop i).trips = 0 := by decide +kernel

/-- Scores and row maxima of one head: the score buffer holds the scores of the tiles before the diagonal, and the
    results are their row maxima and the masked diagonal tile. -/
theorem part2_spec (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32)
    (h3 : v3 = iota .tc S256x256 32 [0] iota_S256x256_d0_w32) (h4 : v4 = iota .tc S256x256 32 [1] iota_S256x256_d1_w32)
    (k : Fin k0_t2_loop.trips) (X2 : BufTy.Contents (Elt Ideal) arg2.view.ty) (X3 : BufTy.Contents (Elt Ideal) arg3.view.ty) (X4 : BufTy.Contents (Elt Ideal) arg4.view.ty) (X11 : BufTy.Contents (Elt Ideal) arg11.view.ty) (X13 : BufTy.Contents (Elt Ideal) arg13.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg13.view.loc (c : Thread nD τ) ↦[arg13.view.set]{fullShare} X13)) : sProp 𝕄)
      ⊢ wp frame (wpE (defs₀ (F := Ideal)) Variants.none (c : Thread nD τ) none) Set.univ (k0_part2 (F := Ideal) i arg2 harg2 arg3 harg3 arg4 harg4 arg5 harg5 arg6 harg6 arg7 harg7 arg8 harg8 arg9 harg9 arg10 harg10 arg11 harg11 arg12 harg12 arg13 harg13 arg1 v3 v4 0#32 1#32 k)
        (fun r => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ ∃ f13,
          ⌜Scored (arg13.view.read (Elt Ideal) f13) (sm (arg4.view.read (Elt Ideal) X4) (arg11.view.read (Elt Ideal) X11) 0 (ldq arg2 k X2) (ldqs arg3 k X3) (i 1).val) (256 * (i 1).val) ∧ RowMax r.2.1 (sm (arg4.view.read (Elt Ideal) X4) (arg11.view.read (Elt Ideal) X11) 0 (ldq arg2 k X2) (ldqs arg3 k X3) (i 1).val) (256 * (i 1).val)
            ∧ (∀ j t, j < 256 → t < 256 → rd r.2.2.1 ![j, t] = (sm (arg4.view.read (Elt Ideal) X4) (arg11.view.read (Elt Ideal) X11) 0 (ldq arg2 k X2) (ldqs arg3 k X3) (i 1).val) (256 * (i 1).val + j) t) ∧ r.2.2.2 = r.2.2.1⌝
          ∗ (arg13.view.loc (c : Thread nD τ) ↦[arg13.view.set]{fullShare} f13))) := by
  rw [k0_part2_eq_skeleton]
  unfold k0_part2_skel
  iintro ⟨H2, H3, H4, H11, H13⟩
  have htr := trips4 i
  sl_exec
  sl_for (inv3 c arg4 arg11 arg13 (ldq arg2 k X2) (ldqs arg3 k X3) X4 X11) $$ [H4 H11 H13]
  · intro k' acc
    exact LoopInv.step (self := loop3 c i arg2 harg2 arg3 harg3 arg4 harg4 arg5 harg5 arg6 harg6 arg7 harg7 arg8 harg8 arg9 harg9 arg10 harg10 arg11 harg11 arg12 harg12 arg13 harg13 arg1 v3 v4 k (ldq arg2 k X2) (ldqs arg3 k X3) X4 X11) k' acc
  · unfold inv3
    isplitl [H4]; · iexact H4
    isplitl [H11]; · iexact H11
    iexists X13
    isplitr [H13]
    rotate_left
    · iexact H13
    · ipureintro
      exact ⟨fun j r hj => by omega, fun r hr => pay8_rd r hr⟩
  · iintro %acc HI
    rw [show Scf.trips (k0_t3_loop i).lb (k0_t3_loop i).ub (k0_t3_loop i).st = (i 1).val from trips3 i]
    unfold inv3
    icases HI with ⟨H4, H11, ⟨%f13, %hf, H13⟩⟩
    sl_exec
    sl_step
    isplitl [H2]; · iexact H2
    isplitl [H3]; · iexact H3
    isplitl [H4]; · iexact H4
    isplitl [H11]; · iexact H11
    iexists f13
    isplitr [H13]
    rotate_left
    · iexact H13
    · ipureintro
      have hlt : ∀ j t, j < 256 * (i 1).val → sc (arg4.view.read (Elt Ideal) X4) (arg11.view.read (Elt Ideal) X11) 0 (ldq arg2 k X2) (ldqs arg3 k X3) j t
          = (sm (arg4.view.read (Elt Ideal) X4) (arg11.view.read (Elt Ideal) X11) 0 (ldq arg2 k X2) (ldqs arg3 k X3) (i 1).val) j t := fun j t hj => by unfold sm; rw [if_pos (by omega)]
      refine ⟨hf.1.congr fun j r hj _ => hlt j r hj, fun r hr => (hf.2 r hr).trans (sup_range_congr fun j hj => hlt j r hj),
        fun j t hj ht => ?_, pay16_eq ..⟩
      refine (pay15_rd v3 v4 h3 h4 _ _ _ _ j t hj ht).trans ?_
      rw [term_load arg4.view arg11.view X4 X11 (k0_off17_inb i) (k0_off18_inb i) 0 (k0_off17_eq i)
        (k0_off18_eq i) _ _ j t hj ht]
      unfold sm
      by_cases h : j ≤ t
      · rw [if_pos h, if_pos (by omega)]
      · rw [if_neg h, if_neg (by omega)]

theorem trips5 : ∀ i : grid0.Coords, (k0_t5_loop i).trips = (i 1).val + 1 := by decide +kernel

/-- Before tile `k` of the weight loop: the rows of the tiles before it hold the weights, the later ones still their
    scores, and the carried row sums the weights so far. -/
def inv5 (c : Dev nD) (arg13 : Memref sig .tc .vmem S8192x256 .f32) (s : ℕ → ℕ → EReal) (n : ℕ) (k : ℕ) (acc : FVec Ideal S1x256 .f32) : sProp 𝕄 :=
  iprop(∃ f13, ⌜Scored (arg13.view.read (Elt Ideal) f13) (wt s n) (256 * k) ∧ ScoredFrom (arg13.view.read (Elt Ideal) f13) s (256 * k) n
    ∧ RowSum acc (wt s n) (256 * k)⌝ ∗ (arg13.view.loc (c : Thread nD τ) ↦[arg13.view.set]{fullShare} f13))

set_option warn.classDefReducibility false in
/-- The weight loop keeps its invariant. -/
def loop5 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (v76 : FVec Ideal S1x256 .f32) (v92 : FVec Ideal S256x256 .f32) (s : ℕ → ℕ → EReal) (n : ℕ) (hn : n = 256 * (i 1).val + 256)
    (hm : ∀ r, r < 256 → mx2 v76 v92 r = rmax s n r) :
    LoopInv (M := 𝕄) frame (wpE (defs₀ (F := Ideal)) Variants.none (c : Thread nD τ) none) Set.univ
      (k0_t5_loop i).lb (k0_t5_loop i).ub (k0_t5_loop i).st (k0_t5_ok i) (k0_pay31 (F := Ideal))
      (k0_t5_body (F := Ideal) i arg2 harg2 arg3 harg3 arg4 harg4 arg5 harg5 arg6 harg6 arg7 harg7 arg8 harg8 arg9 harg9 arg10 harg10 arg11 harg11 arg12 harg12 arg13 harg13 v76 v92) where
  inv := inv5 c arg13 s n
  step k acc := by
    have hk : k.val < (i 1).val + 1 := lt_of_lt_of_eq k.isLt (trips5 i)
    unfold inv5
    iintro ⟨%f13, %hf, H13⟩
    unfold k0_t5_body
    sl_exec
    sl_step
    iexists _
    isplitr [H13]
    rotate_left
    · iexact H13
    · ipureintro
      have hl := hf.2.1.load (k0_off20_inb i k) (k0_off20_eq i k) (le_refl _) (by omega)
      refine ⟨hf.1.store (k0_off20_inb i k) (k0_off20_eq i k) (fun j r hj hr => ?_) (by omega),
        hf.2.1.store (k0_off20_inb i k) (k0_off20_eq i k) (by omega), hf.2.2.step (fun r hr => ?_) (by omega)⟩
      · refine (pay33_rd _ _ _ j r hj hr).trans ?_
        rw [hl j r hj hr, hm r hr]; rfl
      · refine (pay34_rd _ _ _ _ r hr).trans (congrArg _ (sum_range_congr fun j hj => ?_))
        rw [hl j r hj hr, hm r hr]; rfl

theorem trips7 : ∀ i : grid0.Coords, (k0_t7_loop i).trips = (i 1).val + 1 := by decide +kernel

/-- Before tile `k` of the value loop: the carried accumulator sums the parts of the keys of the tiles before it. -/
def inv7 (c : Dev nD) (arg10 : Memref sig .tc .vmem S2x128x8192 .bf16) (arg13 : Memref sig .tc .vmem S8192x256 .f32) (s : ℕ → ℕ → EReal) (n : ℕ) (X10 : BufTy.Contents (Elt Ideal) arg10.view.ty) (X13 : BufTy.Contents (Elt Ideal) arg13.view.ty) (k : ℕ)
    (acc : FVec Ideal S128x256 .f32) : sProp 𝕄 :=
  iprop((arg10.view.loc (c : Thread nD τ) ↦[arg10.view.set]{fullShare} X10) ∗ (arg13.view.loc (c : Thread nD τ) ↦[arg13.view.set]{fullShare} X13) ∗ ⌜ColSum acc (fun d j r => part (arg10.view.read (Elt Ideal) X10) 0 s n d j r) (256 * k)⌝)

set_option warn.classDefReducibility false in
/-- The value loop keeps its invariant. -/
def loop7 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (v108 : FVec Ideal S1x256 .f32) (s : ℕ → ℕ → EReal) (n : ℕ) (X10 : BufTy.Contents (Elt Ideal) arg10.view.ty)
    (X13 : BufTy.Contents (Elt Ideal) arg13.view.ty) (hn : n = 256 * (i 1).val + 256)
    (h13 : Scored (arg13.view.read (Elt Ideal) X13) (wt s n) n) (hd : ∀ r, r < 256 → rd v108 ![0, r] = den s n r) :
    LoopInv (M := 𝕄) frame (wpE (defs₀ (F := Ideal)) Variants.none (c : Thread nD τ) none) Set.univ
      (k0_t7_loop i).lb (k0_t7_loop i).ub (k0_t7_loop i).st (k0_t7_ok i) (k0_pay39 (F := Ideal))
      (k0_t7_body (F := Ideal) i arg2 harg2 arg3 harg3 arg4 harg4 arg5 harg5 arg6 harg6 arg7 harg7 arg8 harg8 arg9 harg9 arg10 harg10 arg11 harg11 arg12 harg12 arg13 harg13 v108) where
  inv := inv7 c arg10 arg13 s n X10 X13
  step k acc := by
    have hk : k.val < (i 1).val + 1 := lt_of_lt_of_eq k.isLt (trips7 i)
    unfold inv7
    iintro ⟨H10, H13, %ha⟩
    unfold k0_t7_body
    sl_exec
    sl_step
    isplitl [H10]; · iexact H10
    isplitl [H13]; · iexact H13
    ipureintro
    refine ha.step (fun d r hd' hr => ?_) (by omega)
    refine (pay40_rd _ _ _ _ d r hd' hr).trans (congrArg _ (sum_range_congr fun j hj => ?_))
    rw [h13.from.load (k0_off22_inb i k) (k0_off22_eq i k) (Nat.zero_le _) (by omega) j r hj hr, hd r hr,
      part_load arg10.view X10 (k0_off23_inb i k) 0 (k0_off23_eq i k) d j hd' hj]
    rfl

theorem sm_eq_hs (arg2 : Memref sig .tc .vmem S1x256x2048 .fp8e4m3) (arg3 : Memref sig .tc .vmem S1x16x256 .f32) (x4 : S1x8192x256.Idx → EReal) (x11 : S2x8192x128.Idx → EReal)
    (k : Fin k0_t2_loop.trips) (X2 : BufTy.Contents (Elt Ideal) arg2.view.ty) (X3 : BufTy.Contents (Elt Ideal) arg3.view.ty) (qi j r : ℕ) (hr : r < 256) :
    sm x4 x11 0 (ldq arg2 k X2) (ldqs arg3 k X3) qi j r
      = hs (arg2.view.read (Elt Ideal) X2) (arg3.view.read (Elt Ideal) X3) x4 x11 0 (k.val) qi j r := by
  unfold sm hs
  split
  · unfold sc
    have e3 := rd_load3 arg3.view X3 (k0_off10_inb k) (k0_off10_eq k) 0 0 r (by omega) (by omega) hr
    simp only [Nat.zero_add, Nat.add_zero] at e3
    rw [e3]
    congr 2
    refine Finset.sum_congr rfl fun d _ => ?_
    have e2 := rd_load3 arg2.view X2 (k0_off9_inb k) (k0_off9_eq k) 0 r (d : ℕ) (by omega) hr d.isLt
    simp only [Nat.zero_add, Nat.add_zero] at e2
    rw [e2]
  · rfl

theorem trips6 : ∀ i : grid0.Coords, (k0_t6_loop i).trips = 0 := by decide +kernel

theorem trips8 : ∀ i : grid0.Coords, (k0_t8_loop i).trips = 0 := by decide +kernel

/-- One head: its columns of the output buffer are added to the ones before. -/
theorem head0 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32)
    (h3 : v3 = iota .tc S256x256 32 [0] iota_S256x256_d0_w32) (h4 : v4 = iota .tc S256x256 32 [1] iota_S256x256_d1_w32)
    (k : Fin k0_t2_loop.trips) (X2 : BufTy.Contents (Elt Ideal) arg2.view.ty) (X3 : BufTy.Contents (Elt Ideal) arg3.view.ty) (X4 : BufTy.Contents (Elt Ideal) arg4.view.ty) (X10 : BufTy.Contents (Elt Ideal) arg10.view.ty) (X11 : BufTy.Contents (Elt Ideal) arg11.view.ty) (u : Unit) :
    inv2 c arg2 arg3 arg4 arg10 arg11 arg12 arg13 X2 X3 X4 X10 X11 (i 1).val (k.val)
      ⊢ wp frame (wpE (defs₀ (F := Ideal)) Variants.none (c : Thread nD τ) none) Set.univ (k0_t2_body (F := Ideal) i arg2 harg2 arg3 harg3 arg4 harg4 arg5 harg5 arg6 harg6 arg7 harg7 arg8 harg8 arg9 harg9 arg10 harg10 arg11 harg11 arg12 harg12 arg13 harg13 arg1 v3 v4 k u)
        (fun _ => inv2 c arg2 arg3 arg4 arg10 arg11 arg12 arg13 X2 X3 X4 X10 X11 (i 1).val ((k.val) + 1)) := by
  have hk8 : k.val < 8 := lt_of_lt_of_le k.isLt k0_t2_abs.2.1
  unfold inv2
  iintro ⟨H2, H3, H4, H10, H11, ⟨%f12, %hf12, H12⟩, ⟨%f13, H13⟩⟩
  unfold k0_t2_body
  have htr6 := trips6 i
  have htr8 := trips8 i
  have hcut := part2_spec c i arg2 harg2 arg3 harg3 arg4 harg4 arg5 harg5 arg6 harg6 arg7 harg7 arg8 harg8 arg9 harg9 arg10 harg10 arg11 harg11 arg12 harg12 arg13 harg13 arg1 v3 v4 h3 h4 k X2 X3 X4 X11 f13
  sl_exec
  have hn : 256 * (i 1).val + 256 = 256 * (i 1).val + 256 := rfl
  obtain ⟨hS, hM, hD, hE⟩ := hk0_part2_4
  have hE' : v96 = v92 := hE
  have hmx : ∀ r, r < 256 → mx2 v76 v92 r = rmax (sm (arg4.view.read (Elt Ideal) X4) (arg11.view.read (Elt Ideal) X11) 0 (ldq arg2 k X2) (ldqs arg3 k X3) (i 1).val) (256 * (i 1).val + 256) r :=
    fun r hr => mx2_eq hM hD rfl r hr
  have hSt := hS.store (n := 256 * (i 1).val + 256) (k0_off19_inb i) (k0_off19_eq i) (w := v96)
    (fun j r hj hr => by rw [hE']; exact hD j r hj hr) rfl
  sl_for (inv5 c arg13 (sm (arg4.view.read (Elt Ideal) X4) (arg11.view.read (Elt Ideal) X11) 0 (ldq arg2 k X2) (ldqs arg3 k X3) (i 1).val) (256 * (i 1).val + 256)) $$ [Hk0_part2_5]
  · intro k' acc
    exact LoopInv.step (self := loop5 c i arg2 harg2 arg3 harg3 arg4 harg4 arg5 harg5 arg6 harg6 arg7 harg7 arg8 harg8 arg9 harg9 arg10 harg10 arg11 harg11 arg12 harg12 arg13 harg13 v76 v92 (sm (arg4.view.read (Elt Ideal) X4) (arg11.view.read (Elt Ideal) X11) 0 (ldq arg2 k X2) (ldqs arg3 k X3) (i 1).val) (256 * (i 1).val + 256) rfl hmx) k' acc
  · unfold inv5
    iexists _
    isplitr [Hk0_part2_5]
    rotate_left
    · iexact Hk0_part2_5
    · ipureintro
      exact ⟨fun j r hj => by omega, hSt.from, fun r hr => pay31_rd r hr⟩
  iintro %v107 HI
  rw [show Scf.trips (k0_t5_loop i).lb (k0_t5_loop i).ub (k0_t5_loop i).st = (i 1).val + 1 from trips5 i]
  unfold inv5
  icases HI with ⟨%f13b, %h13b, H13b⟩
  sl_exec
  have hSb : Scored (arg13.view.read (Elt Ideal) f13b) (wt (sm (arg4.view.read (Elt Ideal) X4) (arg11.view.read (Elt Ideal) X11) 0 (ldq arg2 k X2) (ldqs arg3 k X3) (i 1).val) (256 * (i 1).val + 256)) (256 * (i 1).val + 256) :=
    h13b.1
  have hDb : ∀ r, r < 256 → rd v107 ![0, r] = den (sm (arg4.view.read (Elt Ideal) X4) (arg11.view.read (Elt Ideal) X11) 0 (ldq arg2 k X2) (ldqs arg3 k X3) (i 1).val) (256 * (i 1).val + 256) r := h13b.2.2
  sl_for (inv7 c arg10 arg13 (sm (arg4.view.read (Elt Ideal) X4) (arg11.view.read (Elt Ideal) X11) 0 (ldq arg2 k X2) (ldqs arg3 k X3) (i 1).val) (256 * (i 1).val + 256) X10 f13b) $$ [H10 H13b]
  · intro k' acc
    exact LoopInv.step (self := loop7 c i arg2 harg2 arg3 harg3 arg4 harg4 arg5 harg5 arg6 harg6 arg7 harg7 arg8 harg8 arg9 harg9 arg10 harg10 arg11 harg11 arg12 harg12 arg13 harg13 v107 (sm (arg4.view.read (Elt Ideal) X4) (arg11.view.read (Elt Ideal) X11) 0 (ldq arg2 k X2) (ldqs arg3 k X3) (i 1).val) (256 * (i 1).val + 256) X10 f13b rfl hSb hDb) k' acc
  · unfold inv7
    isplitl [H10]; · iexact H10
    isplitl [H13b]; · iexact H13b
    ipureintro
    exact fun d r hd hr => pay39_rd d r hd hr
  iintro %v118 HI
  rw [show Scf.trips (k0_t7_loop i).lb (k0_t7_loop i).ub (k0_t7_loop i).st = (i 1).val + 1 from trips7 i]
  unfold inv7
  icases HI with ⟨H10, H13b, %h118⟩
  sl_exec
  sl_step
  isplitl [Hk0_part2_0]; · iexact Hk0_part2_0
  isplitl [Hk0_part2_1]; · iexact Hk0_part2_1
  isplitl [Hk0_part2_2]; · iexact Hk0_part2_2
  isplitl [H10]; · iexact H10
  isplitl [Hk0_part2_3]; · iexact Hk0_part2_3
  isplitl [H12]
  · iexists _
    isplitr [H12]
    rotate_left
    · iexact H12
    · ipureintro
      refine hf12.store (k0_off26_inb k) (k0_off26_eq k) (fun r d hr hd => ?_)
      refine (pay42_rd _ r d hr hd).trans ((h118 d r hd hr).trans ?_)
      unfold hout
      rw [show (k.val) / 8 = 0 by omega]
      exact sum_range_congr fun j _ => part_congr _ 0 (fun j => sm_eq_hs arg2 arg3 _ _ k X2 X3 (i 1).val j r hr) _ d j
  · iexists f13b; iexact H13b

end Cert.KernelIdeal.Val

end
-- ==== Proof.Group1.lean ====
/-
  One head of the second key-value group: the loop over score tiles, the loop over weights and the value loop, each
  with its invariant, and the head as a whole.
-/
module

public import proofs.«01_k».proof.Proof.Tile
public import proofs.«01_k».proof.Proof.Heads
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips10 : ∀ i : grid0.Coords, (k0_t10_loop i).trips = (i 1).val := by decide +kernel

/-- Before tile `k` of the score loop: the rows of the tiles before it hold their scores, and the carried row the
    largest of them. -/
def inv10 (c : Dev nD) (arg4 : Memref sig .tc .vmem S1x8192x256 .fp8e4m3) (arg11 : Memref sig .tc .vmem S2x8192x128 .f32) (arg13 : Memref sig .tc .vmem S8192x256 .f32) (q : Vec Ideal S1x256x128 .fp8e4m3) (qs : Vec Ideal S1x1x256 .f32) (X4 : BufTy.Contents (Elt Ideal) arg4.view.ty) (X11 : BufTy.Contents (Elt Ideal) arg11.view.ty) (k : ℕ) (acc : FVec Ideal S1x256 .f32) :
    sProp 𝕄 :=
  iprop((arg4.view.loc (c : Thread nD τ) ↦[arg4.view.set]{fullShare} X4) ∗ (arg11.view.loc (c : Thread nD τ) ↦[arg11.view.set]{fullShare} X11) ∗ ∃ f13, ⌜Scored (arg13.view.read (Elt Ideal) f13) (sc (arg4.view.read (Elt Ideal) X4) (arg11.view.read (Elt Ideal) X11) 1 q qs) (256 * k) ∧ RowMax acc (sc (arg4.view.read (Elt Ideal) X4) (arg11.view.read (Elt Ideal) X11) 1 q qs) (256 * k)⌝ ∗ (arg13.view.loc (c : Thread nD τ) ↦[arg13.view.set]{fullShare} f13))

set_option warn.classDefReducibility false in
/-- The score loop keeps its invariant. -/
def loop10 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32) (k0_t9 : Fin k0_t9_loop.trips) (q : Vec Ideal S1x256x128 .fp8e4m3) (qs : Vec Ideal S1x1x256 .f32) (X4 : BufTy.Contents (Elt Ideal) arg4.view.ty) (X11 : BufTy.Contents (Elt Ideal) arg11.view.ty) :
    LoopInv (M := 𝕄) frame (wpE (defs₀ (F := Ideal)) Variants.none (c : Thread nD τ) none) Set.univ
      (k0_t10_loop i).lb (k0_t10_loop i).ub (k0_t10_loop i).st (k0_t10_ok i) (k0_pay19 (F := Ideal))
      (k0_t10_body (F := Ideal) i arg2 harg2 arg3 harg3 arg4 harg4 arg5 harg5 arg6 harg6 arg7 harg7 arg8 harg8 arg9 harg9 arg10 harg10 arg11 harg11 arg12 harg12 arg13 harg13 arg1 v3 v4 0#32 1#32 k0_t9 q qs) where
  inv := inv10 c arg4 arg11 arg13 q qs X4 X11
  step k acc := by
    unfold inv10
    iintro ⟨H4, H11, ⟨%f13, %hf, H13⟩⟩
    unfold k0_t10_body
    sl_exec
    sl_step
    isplitl [H4]; · iexact H4
    isplitl [H11]; · iexact H11
    iexists _
    isplitr [H13]
    rotate_left
    · iexact H13
    · ipureintro
      have ht := term_load arg4.view arg11.view X4 X11 (k0_off29_inb i k) (k0_off30_inb i k) 1 (k0_off29_eq i k)
        (k0_off30_eq i k) q qs
      refine ⟨hf.1.store (k0_off31_inb i k) (k0_off31_eq i k) (fun j r hj hr => ?_) (by omega),
        hf.2.step (fun r hr => ?_) (by omega)⟩
      · exact (pay21_rd _ _ _ _ j r hj hr).trans (ht j r hj hr)
      · exact (pay22_rd _ _ _ _ _ r hr).trans (congrArg _ (sup_range_congr fun j hj => ht j r hj hr))

/-- The query tile of the head, as loaded. -/
abbrev ldq1 (arg2 : Memref sig .tc .vmem S1x256x2048 .fp8e4m3) (k : Fin k0_t9_loop.trips) (X2 : BufTy.Contents (Elt Ideal) arg2.view.ty) : Vec Ideal S1x256x128 .fp8e4m3 :=
  (arg2.view.readAt (Elt Ideal) (Rect.unit (s := S1x256x2048) (k0_off27 k) S1x256x128.size (k0_off27_inb k)).toLoadRect X2)

/-- The query scales of the head, as loaded. -/
abbrev ldqs1 (arg3 : Memref sig .tc .vmem S1x16x256 .f32) (k : Fin k0_t9_loop.trips) (X3 : BufTy.Contents (Elt Ideal) arg3.view.ty) : Vec Ideal S1x1x256 .f32 :=
  (arg3.view.readAt (Elt Ideal) (Rect.unit (s := S1x16x256) (k0_off28 k) S1x1x256.size (k0_off28_inb k)).toLoadRect X3)

theorem trips11 : ∀ i : grid0.Coords, (k0_t11_loop i).trips = 0 := by decide +kernel

/-- Scores and row maxima of one head: the score buffer holds the scores of the tiles before the diagonal, and the
    results are their row maxima and the masked diagonal tile. -/
theorem part3_spec (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32)
    (h3 : v3 = iota .tc S256x256 32 [0] iota_S256x256_d0_w32) (h4 : v4 = iota .tc S256x256 32 [1] iota_S256x256_d1_w32)
    (k : Fin k0_t9_loop.trips) (X2 : BufTy.Contents (Elt Ideal) arg2.view.ty) (X3 : BufTy.Contents (Elt Ideal) arg3.view.ty) (X4 : BufTy.Contents (Elt Ideal) arg4.view.ty) (X11 : BufTy.Contents (Elt Ideal) arg11.view.ty) (X13 : BufTy.Contents (Elt Ideal) arg13.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg13.view.loc (c : Thread nD τ) ↦[arg13.view.set]{fullShare} X13)) : sProp 𝕄)
      ⊢ wp frame (wpE (defs₀ (F := Ideal)) Variants.none (c : Thread nD τ) none) Set.univ (k0_part3 (F := Ideal) i arg2 harg2 arg3 harg3 arg4 harg4 arg5 harg5 arg6 harg6 arg7 harg7 arg8 harg8 arg9 harg9 arg10 harg10 arg11 harg11 arg12 harg12 arg13 harg13 arg1 v3 v4 0#32 1#32 k)
        (fun r => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ ∃ f13,
          ⌜Scored (arg13.view.read (Elt Ideal) f13) (sm (arg4.view.read (Elt Ideal) X4) (arg11.view.read (Elt Ideal) X11) 1 (ldq1 arg2 k X2) (ldqs1 arg3 k X3) (i 1).val) (256 * (i 1).val) ∧ RowMax r.2.1 (sm (arg4.view.read (Elt Ideal) X4) (arg11.view.read (Elt Ideal) X11) 1 (ldq1 arg2 k X2) (ldqs1 arg3 k X3) (i 1).val) (256 * (i 1).val)
            ∧ (∀ j t, j < 256 → t < 256 → rd r.2.2.1 ![j, t] = (sm (arg4.view.read (Elt Ideal) X4) (arg11.view.read (Elt Ideal) X11) 1 (ldq1 arg2 k X2) (ldqs1 arg3 k X3) (i 1).val) (256 * (i 1).val + j) t) ∧ r.2.2.2 = r.2.2.1⌝
          ∗ (arg13.view.loc (c : Thread nD τ) ↦[arg13.view.set]{fullShare} f13))) := by
  rw [k0_part3_eq_skeleton]
  unfold k0_part3_skel
  iintro ⟨H2, H3, H4, H11, H13⟩
  have htr := trips11 i
  sl_exec
  sl_for (inv10 c arg4 arg11 arg13 (ldq1 arg2 k X2) (ldqs1 arg3 k X3) X4 X11) $$ [H4 H11 H13]
  · intro k' acc
    exact LoopInv.step (self := loop10 c i arg2 harg2 arg3 harg3 arg4 harg4 arg5 harg5 arg6 harg6 arg7 harg7 arg8 harg8 arg9 harg9 arg10 harg10 arg11 harg11 arg12 harg12 arg13 harg13 arg1 v3 v4 k (ldq1 arg2 k X2) (ldqs1 arg3 k X3) X4 X11) k' acc
  · unfold inv10
    isplitl [H4]; · iexact H4
    isplitl [H11]; · iexact H11
    iexists X13
    isplitr [H13]
    rotate_left
    · iexact H13
    · ipureintro
      exact ⟨fun j r hj => by omega, fun r hr => pay19_rd r hr⟩
  · iintro %acc HI
    rw [show Scf.trips (k0_t10_loop i).lb (k0_t10_loop i).ub (k0_t10_loop i).st = (i 1).val from trips10 i]
    unfold inv10
    icases HI with ⟨H4, H11, ⟨%f13, %hf, H13⟩⟩
    sl_exec
    sl_step
    isplitl [H2]; · iexact H2
    isplitl [H3]; · iexact H3
    isplitl [H4]; · iexact H4
    isplitl [H11]; · iexact H11
    iexists f13
    isplitr [H13]
    rotate_left
    · iexact H13
    · ipureintro
      have hlt : ∀ j t, j < 256 * (i 1).val → sc (arg4.view.read (Elt Ideal) X4) (arg11.view.read (Elt Ideal) X11) 1 (ldq1 arg2 k X2) (ldqs1 arg3 k X3) j t
          = (sm (arg4.view.read (Elt Ideal) X4) (arg11.view.read (Elt Ideal) X11) 1 (ldq1 arg2 k X2) (ldqs1 arg3 k X3) (i 1).val) j t := fun j t hj => by unfold sm; rw [if_pos (by omega)]
      refine ⟨hf.1.congr fun j r hj _ => hlt j r hj, fun r hr => (hf.2 r hr).trans (sup_range_congr fun j hj => hlt j r hj),
        fun j t hj ht => ?_, pay27_eq ..⟩
      refine (pay26_rd v3 v4 h3 h4 _ _ _ _ j t hj ht).trans ?_
      rw [term_load arg4.view arg11.view X4 X11 (k0_off35_inb i) (k0_off36_inb i) 1 (k0_off35_eq i)
        (k0_off36_eq i) _ _ j t hj ht]
      unfold sm
      by_cases h : j ≤ t
      · rw [if_pos h, if_pos (by omega)]
      · rw [if_neg h, if_neg (by omega)]

theorem trips12 : ∀ i : grid0.Coords, (k0_t12_loop i).trips = (i 1).val + 1 := by decide +kernel

/-- Before tile `k` of the weight loop: the rows of the tiles before it hold the weights, the later ones still their
    scores, and the carried row sums the weights so far. -/
def inv12 (c : Dev nD) (arg13 : Memref sig .tc .vmem S8192x256 .f32) (s : ℕ → ℕ → EReal) (n : ℕ) (k : ℕ) (acc : FVec Ideal S1x256 .f32) : sProp 𝕄 :=
  iprop(∃ f13, ⌜Scored (arg13.view.read (Elt Ideal) f13) (wt s n) (256 * k) ∧ ScoredFrom (arg13.view.read (Elt Ideal) f13) s (256 * k) n
    ∧ RowSum acc (wt s n) (256 * k)⌝ ∗ (arg13.view.loc (c : Thread nD τ) ↦[arg13.view.set]{fullShare} f13))

set_option warn.classDefReducibility false in
/-- The weight loop keeps its invariant. -/
def loop12 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (v76 : FVec Ideal S1x256 .f32) (v92 : FVec Ideal S256x256 .f32) (s : ℕ → ℕ → EReal) (n : ℕ) (hn : n = 256 * (i 1).val + 256)
    (hm : ∀ r, r < 256 → mx2 v76 v92 r = rmax s n r) :
    LoopInv (M := 𝕄) frame (wpE (defs₀ (F := Ideal)) Variants.none (c : Thread nD τ) none) Set.univ
      (k0_t12_loop i).lb (k0_t12_loop i).ub (k0_t12_loop i).st (k0_t12_ok i) (k0_pay44 (F := Ideal))
      (k0_t12_body (F := Ideal) i arg2 harg2 arg3 harg3 arg4 harg4 arg5 harg5 arg6 harg6 arg7 harg7 arg8 harg8 arg9 harg9 arg10 harg10 arg11 harg11 arg12 harg12 arg13 harg13 v76 v92) where
  inv := inv12 c arg13 s n
  step k acc := by
    have hk : k.val < (i 1).val + 1 := lt_of_lt_of_eq k.isLt (trips12 i)
    unfold inv12
    iintro ⟨%f13, %hf, H13⟩
    unfold k0_t12_body
    sl_exec
    sl_step
    iexists _
    isplitr [H13]
    rotate_left
    · iexact H13
    · ipureintro
      have hl := hf.2.1.load (k0_off38_inb i k) (k0_off38_eq i k) (le_refl _) (by omega)
      refine ⟨hf.1.store (k0_off38_inb i k) (k0_off38_eq i k) (fun j r hj hr => ?_) (by omega),
        hf.2.1.store (k0_off38_inb i k) (k0_off38_eq i k) (by omega), hf.2.2.step (fun r hr => ?_) (by omega)⟩
      · refine (pay46_rd _ _ _ j r hj hr).trans ?_
        rw [hl j r hj hr, hm r hr]; rfl
      · refine (pay47_rd _ _ _ _ r hr).trans (congrArg _ (sum_range_congr fun j hj => ?_))
        rw [hl j r hj hr, hm r hr]; rfl

theorem trips14 : ∀ i : grid0.Coords, (k0_t14_loop i).trips = (i 1).val + 1 := by decide +kernel

/-- Before tile `k` of the value loop: the carried accumulator sums the parts of the keys of the tiles before it. -/
def inv14 (c : Dev nD) (arg10 : Memref sig .tc .vmem S2x128x8192 .bf16) (arg13 : Memref sig .tc .vmem S8192x256 .f32) (s : ℕ → ℕ → EReal) (n : ℕ) (X10 : BufTy.Contents (Elt Ideal) arg10.view.ty) (X13 : BufTy.Contents (Elt Ideal) arg13.view.ty) (k : ℕ)
    (acc : FVec Ideal S128x256 .f32) : sProp 𝕄 :=
  iprop((arg10.view.loc (c : Thread nD τ) ↦[arg10.view.set]{fullShare} X10) ∗ (arg13.view.loc (c : Thread nD τ) ↦[arg13.view.set]{fullShare} X13) ∗ ⌜ColSum acc (fun d j r => part (arg10.view.read (Elt Ideal) X10) 1 s n d j r) (256 * k)⌝)

set_option warn.classDefReducibility false in
/-- The value loop keeps its invariant. -/
def loop14 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (v108 : FVec Ideal S1x256 .f32) (s : ℕ → ℕ → EReal) (n : ℕ) (X10 : BufTy.Contents (Elt Ideal) arg10.view.ty)
    (X13 : BufTy.Contents (Elt Ideal) arg13.view.ty) (hn : n = 256 * (i 1).val + 256)
    (h13 : Scored (arg13.view.read (Elt Ideal) X13) (wt s n) n) (hd : ∀ r, r < 256 → rd v108 ![0, r] = den s n r) :
    LoopInv (M := 𝕄) frame (wpE (defs₀ (F := Ideal)) Variants.none (c : Thread nD τ) none) Set.univ
      (k0_t14_loop i).lb (k0_t14_loop i).ub (k0_t14_loop i).st (k0_t14_ok i) (k0_pay52 (F := Ideal))
      (k0_t14_body (F := Ideal) i arg2 harg2 arg3 harg3 arg4 harg4 arg5 harg5 arg6 harg6 arg7 harg7 arg8 harg8 arg9 harg9 arg10 harg10 arg11 harg11 arg12 harg12 arg13 harg13 v108) where
  inv := inv14 c arg10 arg13 s n X10 X13
  step k acc := by
    have hk : k.val < (i 1).val + 1 := lt_of_lt_of_eq k.isLt (trips14 i)
    unfold inv14
    iintro ⟨H10, H13, %ha⟩
    unfold k0_t14_body
    sl_exec
    sl_step
    isplitl [H10]; · iexact H10
    isplitl [H13]; · iexact H13
    ipureintro
    refine ha.step (fun d r hd' hr => ?_) (by omega)
    refine (pay53_rd _ _ _ _ d r hd' hr).trans (congrArg _ (sum_range_congr fun j hj => ?_))
    rw [h13.from.load (k0_off40_inb i k) (k0_off40_eq i k) (Nat.zero_le _) (by omega) j r hj hr, hd r hr,
      part_load arg10.view X10 (k0_off41_inb i k) 1 (k0_off41_eq i k) d j hd' hj]
    rfl

theorem sm_eq_hs1 (arg2 : Memref sig .tc .vmem S1x256x2048 .fp8e4m3) (arg3 : Memref sig .tc .vmem S1x16x256 .f32) (x4 : S1x8192x256.Idx → EReal) (x11 : S2x8192x128.Idx → EReal)
    (k : Fin k0_t9_loop.trips) (X2 : BufTy.Contents (Elt Ideal) arg2.view.ty) (X3 : BufTy.Contents (Elt Ideal) arg3.view.ty) (qi j r : ℕ) (hr : r < 256) :
    sm x4 x11 1 (ldq1 arg2 k X2) (ldqs1 arg3 k X3) qi j r
      = hs (arg2.view.read (Elt Ideal) X2) (arg3.view.read (Elt Ideal) X3) x4 x11 1 (k.val + 8) qi j r := by
  unfold sm hs
  split
  · unfold sc
    have e3 := rd_load3 arg3.view X3 (k0_off28_inb k) (k0_off28_eq k) 0 0 r (by omega) (by omega) hr
    simp only [Nat.zero_add, Nat.add_zero] at e3
    rw [e3]
    congr 2
    refine Finset.sum_congr rfl fun d _ => ?_
    have e2 := rd_load3 arg2.view X2 (k0_off27_inb k) (k0_off27_eq k) 0 r (d : ℕ) (by omega) hr d.isLt
    simp only [Nat.zero_add, Nat.add_zero] at e2
    rw [e2]
    rw [show 128 * (k.val + 8) = 128 * k.val + 1024 by omega]
  · rfl

theorem trips13 : ∀ i : grid0.Coords, (k0_t13_loop i).trips = 0 := by decide +kernel

theorem trips15 : ∀ i : grid0.Coords, (k0_t15_loop i).trips = 0 := by decide +kernel

/-- One head: its columns of the output buffer are added to the ones before. -/
theorem head1 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (arg1 : BitVec 32) (v3 : IVec S256x256 32) (v4 : IVec S256x256 32)
    (h3 : v3 = iota .tc S256x256 32 [0] iota_S256x256_d0_w32) (h4 : v4 = iota .tc S256x256 32 [1] iota_S256x256_d1_w32)
    (k : Fin k0_t9_loop.trips) (X2 : BufTy.Contents (Elt Ideal) arg2.view.ty) (X3 : BufTy.Contents (Elt Ideal) arg3.view.ty) (X4 : BufTy.Contents (Elt Ideal) arg4.view.ty) (X10 : BufTy.Contents (Elt Ideal) arg10.view.ty) (X11 : BufTy.Contents (Elt Ideal) arg11.view.ty) (u : Unit) :
    inv2 c arg2 arg3 arg4 arg10 arg11 arg12 arg13 X2 X3 X4 X10 X11 (i 1).val (k.val + 8)
      ⊢ wp frame (wpE (defs₀ (F := Ideal)) Variants.none (c : Thread nD τ) none) Set.univ (k0_t9_body (F := Ideal) i arg2 harg2 arg3 harg3 arg4 harg4 arg5 harg5 arg6 harg6 arg7 harg7 arg8 harg8 arg9 harg9 arg10 harg10 arg11 harg11 arg12 harg12 arg13 harg13 arg1 v3 v4 k u)
        (fun _ => inv2 c arg2 arg3 arg4 arg10 arg11 arg12 arg13 X2 X3 X4 X10 X11 (i 1).val ((k.val + 8) + 1)) := by
  have hk8 : k.val < 8 := lt_of_lt_of_le k.isLt k0_t9_abs.2.1
  unfold inv2
  iintro ⟨H2, H3, H4, H10, H11, ⟨%f12, %hf12, H12⟩, ⟨%f13, H13⟩⟩
  unfold k0_t9_body
  have htr13 := trips13 i
  have htr15 := trips15 i
  have hcut := part3_spec c i arg2 harg2 arg3 harg3 arg4 harg4 arg5 harg5 arg6 harg6 arg7 harg7 arg8 harg8 arg9 harg9 arg10 harg10 arg11 harg11 arg12 harg12 arg13 harg13 arg1 v3 v4 h3 h4 k X2 X3 X4 X11 f13
  sl_exec
  have hn : 256 * (i 1).val + 256 = 256 * (i 1).val + 256 := rfl
  obtain ⟨hS, hM, hD, hE⟩ := hk0_part3_4
  have hE' : v96 = v92 := hE
  have hmx : ∀ r, r < 256 → mx2 v76 v92 r = rmax (sm (arg4.view.read (Elt Ideal) X4) (arg11.view.read (Elt Ideal) X11) 1 (ldq1 arg2 k X2) (ldqs1 arg3 k X3) (i 1).val) (256 * (i 1).val + 256) r :=
    fun r hr => mx2_eq hM hD rfl r hr
  have hSt := hS.store (n := 256 * (i 1).val + 256) (k0_off37_inb i) (k0_off37_eq i) (w := v96)
    (fun j r hj hr => by rw [hE']; exact hD j r hj hr) rfl
  sl_for (inv12 c arg13 (sm (arg4.view.read (Elt Ideal) X4) (arg11.view.read (Elt Ideal) X11) 1 (ldq1 arg2 k X2) (ldqs1 arg3 k X3) (i 1).val) (256 * (i 1).val + 256)) $$ [Hk0_part3_5]
  · intro k' acc
    exact LoopInv.step (self := loop12 c i arg2 harg2 arg3 harg3 arg4 harg4 arg5 harg5 arg6 harg6 arg7 harg7 arg8 harg8 arg9 harg9 arg10 harg10 arg11 harg11 arg12 harg12 arg13 harg13 v76 v92 (sm (arg4.view.read (Elt Ideal) X4) (arg11.view.read (Elt Ideal) X11) 1 (ldq1 arg2 k X2) (ldqs1 arg3 k X3) (i 1).val) (256 * (i 1).val + 256) rfl hmx) k' acc
  · unfold inv12
    iexists _
    isplitr [Hk0_part3_5]
    rotate_left
    · iexact Hk0_part3_5
    · ipureintro
      exact ⟨fun j r hj => by omega, hSt.from, fun r hr => pay44_rd r hr⟩
  iintro %v107 HI
  rw [show Scf.trips (k0_t12_loop i).lb (k0_t12_loop i).ub (k0_t12_loop i).st = (i 1).val + 1 from trips12 i]
  unfold inv12
  icases HI with ⟨%f13b, %h13b, H13b⟩
  sl_exec
  have hSb : Scored (arg13.view.read (Elt Ideal) f13b) (wt (sm (arg4.view.read (Elt Ideal) X4) (arg11.view.read (Elt Ideal) X11) 1 (ldq1 arg2 k X2) (ldqs1 arg3 k X3) (i 1).val) (256 * (i 1).val + 256)) (256 * (i 1).val + 256) :=
    h13b.1
  have hDb : ∀ r, r < 256 → rd v107 ![0, r] = den (sm (arg4.view.read (Elt Ideal) X4) (arg11.view.read (Elt Ideal) X11) 1 (ldq1 arg2 k X2) (ldqs1 arg3 k X3) (i 1).val) (256 * (i 1).val + 256) r := h13b.2.2
  sl_for (inv14 c arg10 arg13 (sm (arg4.view.read (Elt Ideal) X4) (arg11.view.read (Elt Ideal) X11) 1 (ldq1 arg2 k X2) (ldqs1 arg3 k X3) (i 1).val) (256 * (i 1).val + 256) X10 f13b) $$ [H10 H13b]
  · intro k' acc
    exact LoopInv.step (self := loop14 c i arg2 harg2 arg3 harg3 arg4 harg4 arg5 harg5 arg6 harg6 arg7 harg7 arg8 harg8 arg9 harg9 arg10 harg10 arg11 harg11 arg12 harg12 arg13 harg13 v107 (sm (arg4.view.read (Elt Ideal) X4) (arg11.view.read (Elt Ideal) X11) 1 (ldq1 arg2 k X2) (ldqs1 arg3 k X3) (i 1).val) (256 * (i 1).val + 256) X10 f13b rfl hSb hDb) k' acc
  · unfold inv14
    isplitl [H10]; · iexact H10
    isplitl [H13b]; · iexact H13b
    ipureintro
    exact fun d r hd hr => pay52_rd d r hd hr
  iintro %v118 HI
  rw [show Scf.trips (k0_t14_loop i).lb (k0_t14_loop i).ub (k0_t14_loop i).st = (i 1).val + 1 from trips14 i]
  unfold inv14
  icases HI with ⟨H10, H13b, %h118⟩
  sl_exec
  sl_step
  isplitl [Hk0_part3_0]; · iexact Hk0_part3_0
  isplitl [Hk0_part3_1]; · iexact Hk0_part3_1
  isplitl [Hk0_part3_2]; · iexact Hk0_part3_2
  isplitl [H10]; · iexact H10
  isplitl [Hk0_part3_3]; · iexact Hk0_part3_3
  isplitl [H12]
  · iexists _
    isplitr [H12]
    rotate_left
    · iexact H12
    · ipureintro
      refine hf12.store (k0_off44_inb k) ((k0_off44_eq k).trans (by rw [show 128 * (k.val + 8) = 128 * k.val + 1024 by omega])) (fun r d hr hd => ?_)
      refine (pay55_rd _ r d hr hd).trans ((h118 d r hd hr).trans ?_)
      unfold hout
      rw [show (k.val + 8) / 8 = 1 by omega]
      exact sum_range_congr fun j _ => part_congr _ 1 (fun j => sm_eq_hs1 arg2 arg3 _ _ k X2 X3 (i 1).val j r hr) _ d j
  · iexists f13b; iexact H13b

end Cert.KernelIdeal.Val

end
-- ==== Proof.Prepare.lean ====
/-
  The preparing loop of the first query tile of a batch: scaled values and key scales of all keys.
-/
module

public import proofs.«01_k».proof.Proof.Tile
public import proofs.«01_k».proof.Proof.Heads
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips1 : k0_t1_loop.trips = 64 := by decide +kernel

/-- Before tile `k` of the preparing loop: the keys of the tiles before it are prepared. -/
def inv1 (c : Dev nD) (arg5 : Memref sig .tc .vmem S1x2x8192 .f32) (arg6 : Memref sig .tc .vmem S1x8192x256 .fp8e4m3) (arg7 : Memref sig .tc .vmem S1x2x8192 .f32) (arg10 : Memref sig .tc .vmem S2x128x8192 .bf16) (arg11 : Memref sig .tc .vmem S2x8192x128 .f32) (X5 : BufTy.Contents (Elt Ideal) arg5.view.ty) (X6 : BufTy.Contents (Elt Ideal) arg6.view.ty) (X7 : BufTy.Contents (Elt Ideal) arg7.view.ty) (k : ℕ) (u : Unit) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f10 f11, ⌜Prep (arg5.view.read (Elt Ideal) X5) (arg6.view.read (Elt Ideal) X6) (arg7.view.read (Elt Ideal) X7) (128 * k) (arg10.view.read (Elt Ideal) f10) (arg11.view.read (Elt Ideal) f11)⌝
    ∗ (arg10.view.loc (c : Thread nD τ) ↦[arg10.view.set]{fullShare} f10) ∗ (arg11.view.loc (c : Thread nD τ) ↦[arg11.view.set]{fullShare} f11))

set_option warn.classDefReducibility false in
/-- The preparing loop keeps its invariant. -/
def loop1 (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (h1 : k0_cond1 i = 1#1) (X5 : BufTy.Contents (Elt Ideal) arg5.view.ty) (X6 : BufTy.Contents (Elt Ideal) arg6.view.ty) (X7 : BufTy.Contents (Elt Ideal) arg7.view.ty) :
    LoopInv (M := 𝕄) frame (wpE (defs₀ (F := Ideal)) Variants.none (c : Thread nD τ) none) Set.univ
      k0_t1_loop.lb k0_t1_loop.ub k0_t1_loop.st (k0_t1_ok i h1) ()
      (k0_t1_body (F := Ideal) i arg2 harg2 arg3 harg3 arg4 harg4 arg5 harg5 arg6 harg6 arg7 harg7 arg8 harg8 arg9 harg9 arg10 harg10 arg11 harg11 arg12 harg12 arg13 harg13 h1) where
  inv := inv1 c arg5 arg6 arg7 arg10 arg11 X5 X6 X7
  step k acc := by
    have hk : k.val < 64 := lt_of_lt_of_eq k.isLt trips1
    unfold inv1
    iintro ⟨H5, H6, H7, ⟨%f10, %f11, %hf, H10, H11⟩⟩
    unfold k0_t1_body
    rw [k0_part1_eq_skeleton]
    unfold k0_part1_skel
    sl_exec
    sl_step
    isplitl [H5]; · iexact H5
    isplitl [H6]; · iexact H6
    isplitl [H7]; · iexact H7
    iexists _, _
    isplitr [H10 H11]
    rotate_left
    · isplitl [H10]; · iexact H10
      iexact H11
    · ipureintro
      intro g j hg hj
      by_cases hjk : j < 128 * k.val
      · obtain ⟨ha, hb⟩ := hf g j hg hjk
        refine ⟨fun d hd => ?_, fun l hl => ?_⟩
        · refine (rd_store3_out arg10.view f10 (k0_off7_inb i k h1) _ _ (k0_off7_eq k) g d j (.inr (.inr (.inl hjk)))).trans ?_
          exact (rd_store3_out arg10.view f10 (k0_off3_inb i k h1) _ [] (k0_off3_eq k) g d j
            (.inr (.inr (.inl hjk)))).trans (ha d hd)
        · refine (rd_store3_out arg11.view f11 (k0_off8_inb i k h1) _ _ (k0_off8_eq k) g j l (.inr (.inl (.inl hjk)))).trans ?_
          exact (rd_store3_out arg11.view f11 (k0_off4_inb i k h1) _ [] (k0_off4_eq k) g j l
            (.inr (.inl (.inl hjk)))).trans (hb l hl)
      · obtain ⟨t, rfl⟩ : ∃ t, j = 128 * k.val + t := ⟨j - 128 * k.val, by omega⟩
        have ht : t < 128 := by omega
        rcases (show g = 0 ∨ g = 1 by omega) with rfl | rfl
        · have e6 : ∀ d, d < 128 → _ := fun d hd =>
            rd_load3 arg6.view X6 (k0_off1_inb i k h1) (k0_off1_eq k) 0 t d (by omega) ht hd
          have e7 := rd_load3 arg7.view X7 (k0_off2_inb i k h1) (k0_off2_eq k) 0 0 t (by omega) (by omega) ht
          have e5 := rd_load3 arg5.view X5 (k0_off2_inb i k h1) (k0_off2_eq k) 0 0 t (by omega) (by omega) ht
          refine ⟨fun d hd => ?_, fun l hl => ?_⟩
          · refine (rd_store3_out arg10.view f10 (k0_off7_inb i k h1) _ _ (k0_off7_eq k) 0 d _ (.inl (.inl (by omega)))).trans ?_
            refine (rd_store3_in arg10.view f10 (k0_off3_inb i k h1) _ [] (k0_off3_eq k) 0 d t 0 d _ (by omega) hd ht
              (by omega) (by omega) (by omega)).trans ?_
            refine (pay3_rd _ _ d t hd ht).trans ?_
            rw [e6 d hd, e7]
          · refine (rd_store3_out arg11.view f11 (k0_off8_inb i k h1) _ _ (k0_off8_eq k) 0 _ l (.inl (.inl (by omega)))).trans ?_
            refine (rd_store3_in arg11.view f11 (k0_off4_inb i k h1) _ [] (k0_off4_eq k) 0 t l 0 _ l (by omega) ht hl
              (by omega) (by omega) (by omega)).trans ?_
            refine (pay4_rd _ t l ht hl).trans ?_
            rw [e5]
        · have e6 : ∀ d, d < 128 → _ := fun d hd =>
            rd_load3 arg6.view X6 (k0_off5_inb i k h1) (k0_off5_eq k) 0 t d (by omega) ht hd
          have e7 := rd_load3 arg7.view X7 (k0_off6_inb i k h1) (k0_off6_eq k) 0 0 t (by omega) (by omega) ht
          have e5 := rd_load3 arg5.view X5 (k0_off6_inb i k h1) (k0_off6_eq k) 0 0 t (by omega) (by omega) ht
          refine ⟨fun d hd => ?_, fun l hl => ?_⟩
          · refine (rd_store3_in arg10.view f10 (k0_off7_inb i k h1) _ _ (k0_off7_eq k) 0 d t 1 d _ (by omega) hd ht
              (by omega) (by omega) (by omega)).trans ?_
            refine (pay28_rd _ _ d t hd ht).trans ?_
            rw [e6 d hd, e7]
          · refine (rd_store3_in arg11.view f11 (k0_off8_inb i k h1) _ _ (k0_off8_eq k) 0 t l 1 _ l (by omega) ht hl
              (by omega) (by omega) (by omega)).trans ?_
            refine (pay29_rd _ t l ht hl).trans ?_
            rw [e5]

end Cert.KernelIdeal.Val

end
-- ==== Proof.AllHeads.lean ====
/-
  All sixteen heads of one grid point.
-/
module

public import proofs.«01_k».proof.Proof.Tile
public import proofs.«01_k».proof.Proof.Group0
public import proofs.«01_k».proof.Proof.Group1
public import proofs.«01_k».proof.Proof.Prepare
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips2 : k0_t2_loop.trips = 8 := by decide +kernel

theorem trips9 : k0_t9_loop.trips = 8 := by decide +kernel

/-- All sixteen heads of a grid point: the prepared buffers hold every key, the output buffer every head, and the
    results are the row's exponents. -/
theorem part4_spec (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X10 : BufTy.Contents (Elt Ideal) arg10.view.ty) (X11 : BufTy.Contents (Elt Ideal) arg11.view.ty)
    (f12 : BufTy.Contents (Elt Ideal) arg12.view.ty) (f13 : BufTy.Contents (Elt Ideal) arg13.view.ty)
    (hP : k0_cond1 i ≠ 1#1 → Prep (arg5.view.read (Elt Ideal) X5) (arg6.view.read (Elt Ideal) X6) (arg7.view.read (Elt Ideal) X7) 8192 (arg10.view.read (Elt Ideal) X10) (arg11.view.read (Elt Ideal) X11)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := Ideal)) Variants.none (c : Thread nD τ) none) Set.univ (k0_part4 (F := Ideal) i arg2 harg2 arg3 harg3 arg4 harg4 arg5 harg5 arg6 harg6 arg7 harg7 arg8 harg8 arg9 harg9 arg10 harg10 arg11 harg11 arg12 harg12 arg13 harg13)
        (fun r => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ∃ f10 f11 f12,
          ⌜Prep (arg5.view.read (Elt Ideal) X5) (arg6.view.read (Elt Ideal) X6) (arg7.view.read (Elt Ideal) X7) 8192 (arg10.view.read (Elt Ideal) f10) (arg11.view.read (Elt Ideal) f11)
            ∧ Heads (arg2.view.read (Elt Ideal) X2) (arg3.view.read (Elt Ideal) X3) (arg4.view.read (Elt Ideal) X4) (arg10.view.read (Elt Ideal) f10) (arg11.view.read (Elt Ideal) f11) (i 1).val (arg12.view.read (Elt Ideal) f12) 16
            ∧ r.1 = k0_pay56 (arg12.view.readAt (Elt Ideal) (Rect.unit (s := S256x2048) ![0, 0] S256x2048.size inb_S256x2048_S256x2048_0_0).toLoadRect f12) ∧ r.2.1 = k0_pay57 (arg12.view.readAt (Elt Ideal) (Rect.unit (s := S256x2048) ![0, 0] S256x2048.size inb_S256x2048_S256x2048_0_0).toLoadRect f12) ∧ r.2.2 = k0_pay58⌝
          ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ ∃ f13, (arg13.view.loc (c : Thread nD τ) ↦[arg13.view.set]{fullShare} f13))) := by
  rw [k0_part4_eq_skeleton]
  unfold k0_part4_skel
  iintro ⟨H2, H3, H4, H5, H6, H7, H10, H11, H12, H13⟩
  by_cases hC : k0_cond1 i = 1#1
  · sl_exec
    sl_for (inv1 c arg5 arg6 arg7 arg10 arg11 X5 X6 X7) $$ [H5 H6 H7 H10 H11]
    · intro k u
      exact LoopInv.step (self := loop1 c i arg2 harg2 arg3 harg3 arg4 harg4 arg5 harg5 arg6 harg6 arg7 harg7 arg8 harg8 arg9 harg9 arg10 harg10 arg11 harg11 arg12 harg12 arg13 harg13 hC X5 X6 X7) k u
    · unfold inv1
      isplitl [H5]; · iexact H5
      isplitl [H6]; · iexact H6
      isplitl [H7]; · iexact H7
      iexists X10, X11
      isplitr [H10 H11]
      rotate_left
      · isplitl [H10]; · iexact H10
        iexact H11
      · ipureintro
        exact fun g j hg hj => by omega
    iintro %u HI
    rw [show Scf.trips k0_t1_loop.lb k0_t1_loop.ub k0_t1_loop.st = 64 from trips1]
    unfold inv1
    icases HI with ⟨H5, H6, H7, ⟨%f10, %f11, %hf, H10, H11⟩⟩
    sl_exec
    sl_for (fun kk _ => inv2 c arg2 arg3 arg4 arg10 arg11 arg12 arg13 X2 X3 X4 f10 f11 (i 1).val kk) $$ [H2 H3 H4 H10 H11 H12 H13]
    · intro k u
      exact head0 c i arg2 harg2 arg3 harg3 arg4 harg4 arg5 harg5 arg6 harg6 arg7 harg7 arg8 harg8 arg9 harg9 arg10 harg10 arg11 harg11 arg12 harg12 arg13 harg13 _ _ _ rfl rfl k X2 X3 X4 f10 f11 u
    · unfold inv2
      isplitl [H2]; · iexact H2
      isplitl [H3]; · iexact H3
      isplitl [H4]; · iexact H4
      isplitl [H10]; · iexact H10
      isplitl [H11]; · iexact H11
      isplitl [H12]
      · iexists f12
        isplitr [H12]
        rotate_left
        · iexact H12
        · ipureintro
          exact fun hh r d h => by omega
      · iexists f13; iexact H13
    iintro %u1 HI
    rw [show Scf.trips k0_t2_loop.lb k0_t2_loop.ub k0_t2_loop.st = 0 + 8 from trips2]
    sl_exec
    sl_for (fun kk _ => inv2 c arg2 arg3 arg4 arg10 arg11 arg12 arg13 X2 X3 X4 f10 f11 (i 1).val (kk + 8)) $$ [HI]
    · intro k u
      have h := head1 c i arg2 harg2 arg3 harg3 arg4 harg4 arg5 harg5 arg6 harg6 arg7 harg7 arg8 harg8 arg9 harg9 arg10 harg10 arg11 harg11 arg12 harg12 arg13 harg13 (BitVec.ofNat 32 (i 1).val) _ _ rfl rfl k X2 X3 X4 f10 f11 u
      rw [Nat.add_right_comm] at h
      exact h
    · iexact HI
    iintro %u2 HI
    rw [show Scf.trips k0_t9_loop.lb k0_t9_loop.ub k0_t9_loop.st = 8 from trips9]
    unfold inv2
    icases HI with ⟨H2, H3, H4, H10, H11, ⟨%f12, %hf12, H12⟩, ⟨%f13, H13⟩⟩
    sl_exec
    sl_step
    isplitl [H2]; · iexact H2
    isplitl [H3]; · iexact H3
    isplitl [H4]; · iexact H4
    isplitl [H5]; · iexact H5
    isplitl [H6]; · iexact H6
    isplitl [H7]; · iexact H7
    iexists f10, f11, f12
    isplitr [H10 H11 H12 H13]
    rotate_left
    · isplitl [H10]; · iexact H10
      isplitl [H11]; · iexact H11
      isplitl [H12]; · iexact H12
      iexists f13; iexact H13
    · ipureintro
      exact ⟨hf, hf12, by dsimp only, by dsimp only, by dsimp only⟩
  · sl_exec
    sl_for (fun kk _ => inv2 c arg2 arg3 arg4 arg10 arg11 arg12 arg13 X2 X3 X4 X10 X11 (i 1).val kk) $$ [H2 H3 H4 H10 H11 H12 H13]
    · intro k u
      exact head0 c i arg2 harg2 arg3 harg3 arg4 harg4 arg5 harg5 arg6 harg6 arg7 harg7 arg8 harg8 arg9 harg9 arg10 harg10 arg11 harg11 arg12 harg12 arg13 harg13 _ _ _ rfl rfl k X2 X3 X4 X10 X11 u
    · unfold inv2
      isplitl [H2]; · iexact H2
      isplitl [H3]; · iexact H3
      isplitl [H4]; · iexact H4
      isplitl [H10]; · iexact H10
      isplitl [H11]; · iexact H11
      isplitl [H12]
      · iexists f12
        isplitr [H12]
        rotate_left
        · iexact H12
        · ipureintro
          exact fun hh r d h => by omega
      · iexists f13; iexact H13
    iintro %u1 HI
    rw [show Scf.trips k0_t2_loop.lb k0_t2_loop.ub k0_t2_loop.st = 0 + 8 from trips2]
    sl_exec
    sl_for (fun kk _ => inv2 c arg2 arg3 arg4 arg10 arg11 arg12 arg13 X2 X3 X4 X10 X11 (i 1).val (kk + 8)) $$ [HI]
    · intro k u
      have h := head1 c i arg2 harg2 arg3 harg3 arg4 harg4 arg5 harg5 arg6 harg6 arg7 harg7 arg8 harg8 arg9 harg9 arg10 harg10 arg11 harg11 arg12 harg12 arg13 harg13 (BitVec.ofNat 32 (i 1).val) _ _ rfl rfl k X2 X3 X4 X10 X11 u
      rw [Nat.add_right_comm] at h
      exact h
    · iexact HI
    iintro %u2 HI
    rw [show Scf.trips k0_t9_loop.lb k0_t9_loop.ub k0_t9_loop.st = 8 from trips9]
    unfold inv2
    icases HI with ⟨H2, H3, H4, H10, H11, ⟨%f12, %hf12, H12⟩, ⟨%f13, H13⟩⟩
    sl_exec
    sl_step
    isplitl [H2]; · iexact H2
    isplitl [H3]; · iexact H3
    isplitl [H4]; · iexact H4
    isplitl [H5]; · iexact H5
    isplitl [H6]; · iexact H6
    isplitl [H7]; · iexact H7
    iexists X10, X11, f12
    isplitr [H10 H11 H12 H13]
    rotate_left
    · isplitl [H10]; · iexact H10
      isplitl [H11]; · iexact H11
      isplitl [H12]; · iexact H12
      iexists f13; iexact H13
    · ipureintro
      exact ⟨hP hC, hf12, by dsimp only, by dsimp only, by dsimp only⟩

end Cert.KernelIdeal.Val

end
-- ==== Proof.Quant.lean ====
/-
  The kernel's quantiser at each entry: a row's largest magnitude, the exponent chosen for it, the scaled and clipped
  outputs and the scale.
-/
module

public import proofs.«01_k».proof.Proof.Payloads

@[expose] public section

set_option maxRecDepth 16384

noncomputable section

namespace Cert.Attn

open Idealize.ShloMosaic Cert.KernelIdeal Cert.KernelIdeal.Gen

/-- The largest magnitude of a row of 2048 outputs. -/
def amax (o : ℕ → EReal) : EReal := (Finset.range 2048).sup fun cc => max (o cc) (-(o cc))

/-- How many of the candidate powers of two do not exceed a ratio, as a word. -/
def count (x : EReal) : BitVec 32 :=
  Finset.fold IntOp.addi 0#32 (fun k : Fin 247 => BitVec.setWidth 32 (BitVec.ofBool
    (decide (Ideal.ofBits .f32 (IntOp.shli ArithUnit.vector (BitVec.ofNat 32 (k : ℕ)) 23#32) ≤ x)))) Finset.univ

/-- The exponent of a row's scale, from its largest magnitude. -/
def expo (a : EReal) : BitVec 32 :=
  if a * Ideal.ofBits .f32 991054117#32 = 0 then 0#32
  else IntOp.subi (IntOp.subi (count (a * Ideal.ofBits .f32 991054117#32)) 1#32) 126#32

/-- One quantised output. -/
def code (o : ℕ → EReal) (cc : ℕ) : EReal :=
  min (Ideal.ofBits .f32 1138753536#32) (max (Ideal.ofBits .f32 3286237184#32)
    (o cc * Ideal.ofBits .f32 (IntOp.shli ArithUnit.vector (IntOp.subi 127#32 (expo (amax o))) 23#32)))

/-- A row's scale. -/
def scl (o : ℕ → EReal) : EReal :=
  Ideal.ofBits .f32 (IntOp.shli ArithUnit.vector (IntOp.addi (expo (amax o)) 127#32) 23#32)

theorem amax_congr {o o' : ℕ → EReal} (h : ∀ cc, cc < 2048 → o cc = o' cc) : amax o = amax o' :=
  Finset.sup_congr rfl fun cc hc => by rw [h cc (Finset.mem_range.mp hc)]

theorem code_congr {o o' : ℕ → EReal} (h : ∀ cc, cc < 2048 → o cc = o' cc) {cc : ℕ} (hc : cc < 2048) :
    code o cc = code o' cc := by
  unfold code
  rw [amax_congr h, h cc hc]

theorem scl_congr {o o' : ℕ → EReal} (h : ∀ cc, cc < 2048 → o cc = o' cc) : scl o = scl o' := by
  unfold scl
  rw [amax_congr h]

theorem pay56_at (v7 : Vec Ideal S256x2048 .f32) (j : Fin 256) :
    k0_pay56 (F := Ideal) v7 (ix2 j 0) = expo (amax fun cc => rd v7 ![(j : ℕ), cc]) := by
  have hm : Finset.fold max (Ideal.ofBits .f32 4286578688#32) (fun x : Fin 2048 => FloatOps.absf (F := Ideal) (φ := .f32) (v7 (ix2 j x)))
      Finset.univ = amax fun cc => rd v7 ![(j : ℕ), cc] := by
    rw [bits_neg_inf]
    exact fold_max_range 2048 _ _ fun x => by rw [rd2 v7]; rfl
  pointwise [k0_pay56]
  rw [hm]
  rfl

theorem pay57_at (v7 : Vec Ideal S256x2048 .f32) (j : Fin 256) :
    k0_pay57 (F := Ideal) v7 (ix2 j 0) = IntOp.addi (expo (amax fun cc => rd v7 ![(j : ℕ), cc])) 127#32 := by
  have h := pay56_at v7 j
  pointwise [k0_pay57]
  rw [h]

theorem pay58_at (j : Fin 256) : k0_pay58 (ix2 j 0) = 23#32 := by
  pointwise [k0_pay58]

theorem pay1_rd (v7 : Vec Ideal S256x2048 .f32) (r cc : ℕ) (hr : r < 256) (hc : cc < 2048) :
    rd (k0_pay1 (F := Ideal) (k0_pay56 v7) v7) ![0, r, cc] = code (fun cc => rd v7 ![r, cc]) cc := by
  have e := rd3 (k0_pay1 (F := Ideal) (k0_pay56 v7) v7) 0 ⟨r, hr⟩ ⟨cc, hc⟩
  refine e.symm.trans ?_
  pointwise [k0_pay1]
  rw [pay56_at v7 ⟨r, hr⟩, rd2 v7]
  rfl

theorem pay2_rd (v7 : Vec Ideal S256x2048 .f32) (r : ℕ) (hr : r < 256) :
    rd (k0_pay2 (F := Ideal) (k0_pay57 v7) k0_pay58) ![0, 0, r] = scl (fun cc => rd v7 ![r, cc]) := by
  have e := rd3 (k0_pay2 (F := Ideal) (k0_pay57 v7) k0_pay58) 0 0 ⟨r, hr⟩
  refine e.symm.trans ?_
  pointwise [k0_pay2]
  rw [pay57_at v7 ⟨r, hr⟩, pay58_at]
  rfl

end Cert.Attn

end
-- ==== Proof.BodyValue.lean ====
/-
  What one grid point of the kernel leaves: the codes and the scales of its query tile.
-/
module

public import proofs.«01_k».proof.Proof.Tile
public import proofs.«01_k».proof.Proof.AllHeads
public import proofs.«01_k».proof.Proof.Quant
public import Idealize.ShloMosaic.Lib.Exec
public import Idealize.ShloMosaic.Lib.Pipeline.Kit
public import Idealize.ShloMosaic.Lib.Tactic

@[expose] public section

set_option maxRecDepth 8192
set_option maxHeartbeats 4000000

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The masked score of head `hh` of group `g`, from the staged blocks alone. -/
def ks (x2 : S1x256x2048.Idx → EReal) (x3 : S1x16x256.Idx → EReal) (x4 : S1x8192x256.Idx → EReal)
    (x5 : S1x2x8192.Idx → EReal) (g hh qi j r : ℕ) : EReal :=
  if j ≤ 256 * qi + r then
    (∑ d : Fin 128, rd x4 ![0, j, 128 * g + (d : ℕ)] * rd x2 ![0, r, 128 * hh + (d : ℕ)]) * rd x5 ![0, g, j]
      * (rd x3 ![0, hh, r] * cK)
  else ⊥

/-- The output of head `hh`, row `r`, lane `d`, from the staged blocks alone. -/
def kout (x2 : S1x256x2048.Idx → EReal) (x3 : S1x16x256.Idx → EReal) (x4 : S1x8192x256.Idx → EReal)
    (x5 : S1x2x8192.Idx → EReal) (x6 : S1x8192x256.Idx → EReal) (x7 : S1x2x8192.Idx → EReal) (hh qi r d : ℕ) : EReal :=
  ∑ j ∈ Finset.range (256 * qi + 256), (rd x6 ![0, j, 128 * (hh / 8) + d] * rd x7 ![0, hh / 8, j])
    * (wt (ks x2 x3 x4 x5 (hh / 8) hh qi) (256 * qi + 256) j r
        * Ideal.div 1 (den (ks x2 x3 x4 x5 (hh / 8) hh qi) (256 * qi + 256) r))

/-- The output row `r` of query tile `qi`, all heads side by side. -/
def krow (x2 : S1x256x2048.Idx → EReal) (x3 : S1x16x256.Idx → EReal) (x4 : S1x8192x256.Idx → EReal)
    (x5 : S1x2x8192.Idx → EReal) (x6 : S1x8192x256.Idx → EReal) (x7 : S1x2x8192.Idx → EReal) (qi r cc : ℕ) : EReal :=
  kout x2 x3 x4 x5 x6 x7 (cc / 128) qi r (cc % 128)

theorem hout_eq_kout (x2 : S1x256x2048.Idx → EReal) (x3 : S1x16x256.Idx → EReal) (x4 : S1x8192x256.Idx → EReal)
    (x5 : S1x2x8192.Idx → EReal) (x6 : S1x8192x256.Idx → EReal) (x7 : S1x2x8192.Idx → EReal)
    {x10 : S2x128x8192.Idx → EReal} {x11 : S2x8192x128.Idx → EReal} (hP : Prep x5 x6 x7 8192 x10 x11)
    (hh qi r d : ℕ) (hhh : hh < 16) (hq : qi < 32) (hr : r < 256) (hd : d < 128) :
    hout x2 x3 x4 x10 x11 hh qi r d = kout x2 x3 x4 x5 x6 x7 hh qi r d := by
  have hs' : ∀ j, hs x2 x3 x4 x11 (hh / 8) hh qi j r = ks x2 x3 x4 x5 (hh / 8) hh qi j r := by
    intro j
    unfold hs ks
    by_cases h : j ≤ 256 * qi + r
    · rw [if_pos h, if_pos h, (hP (hh / 8) j (by omega) (by omega)).2 (r % 128) (Nat.mod_lt _ (by omega))]
    · rw [if_neg h, if_neg h]
  unfold hout kout
  refine sum_range_congr fun j hj => (part_congr x10 (hh / 8) hs' _ d j).trans ?_
  unfold part
  rw [(hP (hh / 8) j (by omega) (by omega)).1 d hd]

/-- One grid point: the block of codes and the block of scales it leaves, from the staged blocks; the prepared buffers
    hold every key of the batch afterwards. -/
theorem body_val (c : Dev nD) (i : grid0.Coords) (arg2 : Memref sig .tc .vmem S1x256x2048 .fp8e4m3) (harg2 : arg2.IsWhole) (arg3 : Memref sig .tc .vmem S1x16x256 .f32) (harg3 : arg3.IsWhole) (arg4 : Memref sig .tc .vmem S1x8192x256 .fp8e4m3) (harg4 : arg4.IsWhole) (arg5 : Memref sig .tc .vmem S1x2x8192 .f32) (harg5 : arg5.IsWhole) (arg6 : Memref sig .tc .vmem S1x8192x256 .fp8e4m3) (harg6 : arg6.IsWhole) (arg7 : Memref sig .tc .vmem S1x2x8192 .f32) (harg7 : arg7.IsWhole) (arg8 : Memref sig .tc .vmem S1x256x2048 .fp8e4m3) (harg8 : arg8.IsWhole) (arg9 : Memref sig .tc .vmem S1x1x256 .f32) (harg9 : arg9.IsWhole) (arg10 : Memref sig .tc .vmem S2x128x8192 .bf16) (harg10 : arg10.IsWhole) (arg11 : Memref sig .tc .vmem S2x8192x128 .f32) (harg11 : arg11.IsWhole) (arg12 : Memref sig .tc .vmem S256x2048 .f32) (harg12 : arg12.IsWhole) (arg13 : Memref sig .tc .vmem S8192x256 .f32) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X10 : BufTy.Contents (Elt Ideal) arg10.view.ty) (X11 : BufTy.Contents (Elt Ideal) arg11.view.ty)
    (hP : k0_cond1 i ≠ 1#1 → Prep (arg5.view.read (Elt Ideal) X5) (arg6.view.read (Elt Ideal) X6) (arg7.view.read (Elt Ideal) X7) 8192 (arg10.view.read (Elt Ideal) X10) (arg11.view.read (Elt Ideal) X11)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f8, (arg8.view.loc (c : Thread nD τ) ↦[arg8.view.set]{fullShare} f8)) ∗ (∃ f9, (arg9.view.loc (c : Thread nD τ) ↦[arg9.view.set]{fullShare} f9)) ∗ (arg10.view.loc (c : Thread nD τ) ↦[arg10.view.set]{fullShare} X10) ∗ (arg11.view.loc (c : Thread nD τ) ↦[arg11.view.set]{fullShare} X11)
        ∗ (∃ f12, (arg12.view.loc (c : Thread nD τ) ↦[arg12.view.set]{fullShare} f12)) ∗ ∃ f13, (arg13.view.loc (c : Thread nD τ) ↦[arg13.view.set]{fullShare} f13)) : sProp 𝕄)
      ⊢ wp frame (wpE (defs₀ (F := Ideal)) Variants.none (c : Thread nD τ) none) Set.univ (cc0_fp8_causal_gqa (F := Ideal) i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
          ∗ (∃ f8, ⌜∀ r cc, r < 256 → cc < 2048 → rd (arg8.view.read (Elt Ideal) f8) ![0, r, cc] = code (krow (arg2.view.read (Elt Ideal) X2) (arg3.view.read (Elt Ideal) X3) (arg4.view.read (Elt Ideal) X4) (arg5.view.read (Elt Ideal) X5) (arg6.view.read (Elt Ideal) X6) (arg7.view.read (Elt Ideal) X7) (i 1).val r) cc⌝ ∗ (arg8.view.loc (c : Thread nD τ) ↦[arg8.view.set]{fullShare} f8))
          ∗ (∃ f9, ⌜∀ r, r < 256 → rd (arg9.view.read (Elt Ideal) f9) ![0, 0, r] = scl (krow (arg2.view.read (Elt Ideal) X2) (arg3.view.read (Elt Ideal) X3) (arg4.view.read (Elt Ideal) X4) (arg5.view.read (Elt Ideal) X5) (arg6.view.read (Elt Ideal) X6) (arg7.view.read (Elt Ideal) X7) (i 1).val r)⌝ ∗ (arg9.view.loc (c : Thread nD τ) ↦[arg9.view.set]{fullShare} f9))
          ∗ (∃ f10 f11, ⌜Prep (arg5.view.read (Elt Ideal) X5) (arg6.view.read (Elt Ideal) X6) (arg7.view.read (Elt Ideal) X7) 8192 (arg10.view.read (Elt Ideal) f10) (arg11.view.read (Elt Ideal) f11)⌝ ∗ (arg10.view.loc (c : Thread nD τ) ↦[arg10.view.set]{fullShare} f10) ∗ (arg11.view.loc (c : Thread nD τ) ↦[arg11.view.set]{fullShare} f11))
          ∗ (∃ f12, (arg12.view.loc (c : Thread nD τ) ↦[arg12.view.set]{fullShare} f12)) ∗ ∃ f13, (arg13.view.loc (c : Thread nD τ) ↦[arg13.view.set]{fullShare} f13))) := by
  have hq : (i 1).val < 32 := (i 1).isLt
  simp only [cc0_fp8_causal_gqa_eq_skeleton]; unfold cc0_fp8_causal_gqa_skel
  iintro ⟨H2, H3, H4, H5, H6, H7, ⟨%f8, H8⟩, ⟨%f9, H9⟩, H10, H11, ⟨%f12, H12⟩, ⟨%f13, H13⟩⟩
  have hcut := part4_spec c i arg2 harg2 arg3 harg3 arg4 harg4 arg5 harg5 arg6 harg6 arg7 harg7 arg8 harg8 arg9 harg9 arg10 harg10 arg11 harg11 arg12 harg12 arg13 harg13 X2 X3 X4 X5 X6 X7 X10 X11 f12 f13 hP
  sl_exec
  sl_step
  obtain ⟨hp1, hp2, e1, e2, e3⟩ := hk0_part4_6
  dsimp only at e1 e2 e3
  subst e1 e2 e3
  have hrow : ∀ r, r < 256 → ∀ cc, cc < 2048 → rd (arg12.view.readAt (Elt Ideal) (Rect.unit (s := S256x2048) ![0, 0]
      S256x2048.size inb_S256x2048_S256x2048_0_0).toLoadRect f12k0_part4_2) ![r, cc] = (krow (arg2.view.read (Elt Ideal) X2) (arg3.view.read (Elt Ideal) X3) (arg4.view.read (Elt Ideal) X4) (arg5.view.read (Elt Ideal) X5) (arg6.view.read (Elt Ideal) X6) (arg7.view.read (Elt Ideal) X7) (i 1).val r) cc := by
    intro r hr cc hcc
    have e := rd_load2 arg12.view f12k0_part4_2 inb_S256x2048_S256x2048_0_0 rfl r cc hr hcc
    simp only [Nat.zero_add] at e
    refine e.trans ?_
    have h := hp2 (cc / 128) r (cc % 128) (by omega) hr (Nat.mod_lt _ (by omega))
    rw [Nat.div_add_mod] at h
    exact h.trans (hout_eq_kout _ _ _ _ _ _ hp1 _ _ r _ (by omega) hq hr (Nat.mod_lt _ (by omega)))
  isplitl [Hk0_part4_0]; · iexact Hk0_part4_0
  isplitl [Hk0_part4_1]; · iexact Hk0_part4_1
  isplitl [Hk0_part4_2]; · iexact Hk0_part4_2
  isplitl [Hk0_part4_3]; · iexact Hk0_part4_3
  isplitl [Hk0_part4_4]; · iexact Hk0_part4_4
  isplitl [Hk0_part4_5]; · iexact Hk0_part4_5
  isplitl [H8]
  · iexists _
    isplitr [H8]
    rotate_left
    · iexact H8
    · ipureintro
      intro r cc hr hcc
      refine (rd_store3_in arg8.view f8 inb_S1x256x2048_S1x256x2048_0_0_0 _ [] rfl 0 r cc 0 r cc (by omega) hr hcc
        (by omega) (by omega) (by omega)).trans ?_
      exact (pay1_rd _ r cc hr hcc).trans (code_congr (hrow r hr) hcc)
  isplitl [H9]
  · iexists _
    isplitr [H9]
    rotate_left
    · iexact H9
    · ipureintro
      intro r hr
      refine (rd_store3_in arg9.view f9 inb_S1x1x256_S1x1x256_0_0_0 _ [] rfl 0 0 r 0 0 r (by omega) (by omega) hr
        (by omega) (by omega) (by omega)).trans ?_
      exact (pay2_rd _ r hr).trans (scl_congr (hrow r hr))
  isplitl [Hk0_part4_7 Hk0_part4_8]
  · iexists f10k0_part4_0, f11k0_part4_1
    isplitr [Hk0_part4_7 Hk0_part4_8]
    rotate_left
    · isplitl [Hk0_part4_7]; · iexact Hk0_part4_7
      iexact Hk0_part4_8
    · ipureintro
      exact hp1
  isplitl [Hk0_part4_9]; · iexists _; iexact Hk0_part4_9
  iexists _; iexact Hk0_part4_10

end Cert.KernelIdeal.Val

end
-- ==== Proof.Blocks.lean ====
/-
  The blocks the kernel's windows hold at a grid point, as entries of the arrays the region finds.
-/
module

public import proofs.«01_k».proof.Proof.BodyValue
public import proofs.«01_k».proof.Proof.Gen.KernelIdeal.Frame
public import Idealize.ShloMosaic.Lib.Pipeline.FrameBody
public import Idealize.ShloMosaic.Lib.Quiescent

@[expose] public section

set_option maxRecDepth 8192

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- Grid point `t` has batch `t / 32` … -/
theorem coord0 : ∀ t : Fin grid0.N, (grid0.coords t 0).val = t.val / 32 := by decide +kernel

/-- … and query tile `t % 32`. -/
theorem coord1 : ∀ t : Fin grid0.N, (grid0.coords t 1).val = t.val % 32 := by decide +kernel

theorem lt256 (t : Fin cfg0.N) : t.val < 256 := lt_of_lt_of_eq t.isLt N_0

/-- The keys and the values are prepared at the first query tile of a batch. -/
theorem cond1 : ∀ t : Fin grid0.N, t.val % 32 = 0 → k0_cond1 (grid0.coords t) = 1#1 := by decide +kernel

theorem index0_0 : ∀ t : Fin grid0.N, win0_0.index t 0 = t.val / 32 := by decide +kernel
theorem index0_1 : ∀ t : Fin grid0.N, win0_0.index t 1 = t.val % 32 := by decide +kernel
theorem index0_2 : ∀ t : Fin grid0.N, win0_0.index t 2 = 0 := by decide +kernel

/-- Window 0's block at point `t`. -/
theorem rd_blk0 (c : Dev nD) (t : Fin cfg0.N) (a b : ℕ) (ha : a < 256) (hb : b < 2048) :
    rd (α := EReal) (S := S1x256x2048) (iblk m c 0 t) ![0, a, b] = rd (α := EReal) (S := S8x8192x2048) (V m c main_arg0) ![t.val / 32, 256 * (t.val % 32) + a, b] := by
  have ht := lt256 t
  have h1 : ∀ k : Fin 3, (![0, a, b] : Fin 3 → ℕ) k < S1x256x2048.size k := forall3 (show 0 < 1 by omega) ha hb
  have h2 : ∀ k : Fin 3, (![t.val / 32, 256 * (t.val % 32) + a, b] : Fin 3 → ℕ) k < S8x8192x2048.size k :=
    forall3 (show _ < 8 by simp; omega) (show _ < 8192 by simp; omega) (show _ < 2048 by simp; omega)
  rw [rd_of (α := EReal) (S := S1x256x2048) _ _ (fun k => ⟨_, h1 k⟩) fun _ => rfl, rd_of (α := EReal) (S := S8x8192x2048) _ _ (fun k => ⟨_, h2 k⟩) fun _ => rfl]
  unfold iblk
  rw [View.read_apply]
  show V m c main_arg0 _ = V m c main_arg0 _
  congr 1
  funext k
  apply Fin.ext
  match k with
  | ⟨0, _⟩ =>
    show win0_0.index t 0 * 1 + 1 * 0 = t.val / 32
    rw [index0_0]; omega
  | ⟨1, _⟩ =>
    show win0_0.index t 1 * 256 + 1 * a = 256 * (t.val % 32) + a
    rw [index0_1]; omega
  | ⟨2, _⟩ =>
    show win0_0.index t 2 * 2048 + 1 * b = b
    rw [index0_2]; omega

theorem index1_0 : ∀ t : Fin grid0.N, win0_1.index t 0 = t.val / 32 := by decide +kernel
theorem index1_1 : ∀ t : Fin grid0.N, win0_1.index t 1 = 0 := by decide +kernel
theorem index1_2 : ∀ t : Fin grid0.N, win0_1.index t 2 = t.val % 32 := by decide +kernel

/-- Window 1's block at point `t`. -/
theorem rd_blk1 (c : Dev nD) (t : Fin cfg0.N) (a b : ℕ) (ha : a < 16) (hb : b < 256) :
    rd (α := EReal) (S := S1x16x256) (iblk m c 1 t) ![0, a, b] = rd (α := EReal) (S := S8x16x8192) (V m c main_v0) ![t.val / 32, a, 256 * (t.val % 32) + b] := by
  have ht := lt256 t
  have h1 : ∀ k : Fin 3, (![0, a, b] : Fin 3 → ℕ) k < S1x16x256.size k := forall3 (show 0 < 1 by omega) ha hb
  have h2 : ∀ k : Fin 3, (![t.val / 32, a, 256 * (t.val % 32) + b] : Fin 3 → ℕ) k < S8x16x8192.size k :=
    forall3 (show _ < 8 by simp; omega) (show _ < 16 by simp; omega) (show _ < 8192 by simp; omega)
  rw [rd_of (α := EReal) (S := S1x16x256) _ _ (fun k => ⟨_, h1 k⟩) fun _ => rfl, rd_of (α := EReal) (S := S8x16x8192) _ _ (fun k => ⟨_, h2 k⟩) fun _ => rfl]
  unfold iblk
  rw [View.read_apply]
  show V m c main_v0 _ = V m c main_v0 _
  congr 1
  funext k
  apply Fin.ext
  match k with
  | ⟨0, _⟩ =>
    show win0_1.index t 0 * 1 + 1 * 0 = t.val / 32
    rw [index1_0]; omega
  | ⟨1, _⟩ =>
    show win0_1.index t 1 * 16 + 1 * a = a
    rw [index1_1]; omega
  | ⟨2, _⟩ =>
    show win0_1.index t 2 * 256 + 1 * b = 256 * (t.val % 32) + b
    rw [index1_2]; omega

theorem index2_0 : ∀ t : Fin grid0.N, win0_2.index t 0 = t.val / 32 := by decide +kernel
theorem index2_1 : ∀ t : Fin grid0.N, win0_2.index t 1 = 0 := by decide +kernel
theorem index2_2 : ∀ t : Fin grid0.N, win0_2.index t 2 = 0 := by decide +kernel

/-- Window 2's block at point `t`. -/
theorem rd_blk2 (c : Dev nD) (t : Fin cfg0.N) (a b : ℕ) (ha : a < 8192) (hb : b < 256) :
    rd (α := EReal) (S := S1x8192x256) (iblk m c 2 t) ![0, a, b] = rd (α := EReal) (S := S8x8192x256) (V m c main_arg2) ![t.val / 32, a, b] := by
  have ht := lt256 t
  have h1 : ∀ k : Fin 3, (![0, a, b] : Fin 3 → ℕ) k < S1x8192x256.size k := forall3 (show 0 < 1 by omega) ha hb
  have h2 : ∀ k : Fin 3, (![t.val / 32, a, b] : Fin 3 → ℕ) k < S8x8192x256.size k :=
    forall3 (show _ < 8 by simp; omega) (show _ < 8192 by simp; omega) (show _ < 256 by simp; omega)
  rw [rd_of (α := EReal) (S := S1x8192x256) _ _ (fun k => ⟨_, h1 k⟩) fun _ => rfl, rd_of (α := EReal) (S := S8x8192x256) _ _ (fun k => ⟨_, h2 k⟩) fun _ => rfl]
  unfold iblk
  rw [View.read_apply]
  show V m c main_arg2 _ = V m c main_arg2 _
  congr 1
  funext k
  apply Fin.ext
  match k with
  | ⟨0, _⟩ =>
    show win0_2.index t 0 * 1 + 1 * 0 = t.val / 32
    rw [index2_0]; omega
  | ⟨1, _⟩ =>
    show win0_2.index t 1 * 8192 + 1 * a = a
    rw [index2_1]; omega
  | ⟨2, _⟩ =>
    show win0_2.index t 2 * 256 + 1 * b = b
    rw [index2_2]; omega

theorem index3_0 : ∀ t : Fin grid0.N, win0_3.index t 0 = t.val / 32 := by decide +kernel
theorem index3_1 : ∀ t : Fin grid0.N, win0_3.index t 1 = 0 := by decide +kernel
theorem index3_2 : ∀ t : Fin grid0.N, win0_3.index t 2 = 0 := by decide +kernel

/-- Window 3's block at point `t`. -/
theorem rd_blk3 (c : Dev nD) (t : Fin cfg0.N) (a b : ℕ) (ha : a < 2) (hb : b < 8192) :
    rd (α := EReal) (S := S1x2x8192) (iblk m c 3 t) ![0, a, b] = rd (α := EReal) (S := S8x2x8192) (V m c main_v1) ![t.val / 32, a, b] := by
  have ht := lt256 t
  have h1 : ∀ k : Fin 3, (![0, a, b] : Fin 3 → ℕ) k < S1x2x8192.size k := forall3 (show 0 < 1 by omega) ha hb
  have h2 : ∀ k : Fin 3, (![t.val / 32, a, b] : Fin 3 → ℕ) k < S8x2x8192.size k :=
    forall3 (show _ < 8 by simp; omega) (show _ < 2 by simp; omega) (show _ < 8192 by simp; omega)
  rw [rd_of (α := EReal) (S := S1x2x8192) _ _ (fun k => ⟨_, h1 k⟩) fun _ => rfl, rd_of (α := EReal) (S := S8x2x8192) _ _ (fun k => ⟨_, h2 k⟩) fun _ => rfl]
  unfold iblk
  rw [View.read_apply]
  show V m c main_v1 _ = V m c main_v1 _
  congr 1
  funext k
  apply Fin.ext
  match k with
  | ⟨0, _⟩ =>
    show win0_3.index t 0 * 1 + 1 * 0 = t.val / 32
    rw [index3_0]; omega
  | ⟨1, _⟩ =>
    show win0_3.index t 1 * 2 + 1 * a = a
    rw [index3_1]; omega
  | ⟨2, _⟩ =>
    show win0_3.index t 2 * 8192 + 1 * b = b
    rw [index3_2]; omega

theorem index4_0 : ∀ t : Fin grid0.N, win0_4.index t 0 = t.val / 32 := by decide +kernel
theorem index4_1 : ∀ t : Fin grid0.N, win0_4.index t 1 = 0 := by decide +kernel
theorem index4_2 : ∀ t : Fin grid0.N, win0_4.index t 2 = 0 := by decide +kernel

/-- Window 4's block at point `t`. -/
theorem rd_blk4 (c : Dev nD) (t : Fin cfg0.N) (a b : ℕ) (ha : a < 8192) (hb : b < 256) :
    rd (α := EReal) (S := S1x8192x256) (iblk m c 4 t) ![0, a, b] = rd (α := EReal) (S := S8x8192x256) (V m c main_arg4) ![t.val / 32, a, b] := by
  have ht := lt256 t
  have h1 : ∀ k : Fin 3, (![0, a, b] : Fin 3 → ℕ) k < S1x8192x256.size k := forall3 (show 0 < 1 by omega) ha hb
  have h2 : ∀ k : Fin 3, (![t.val / 32, a, b] : Fin 3 → ℕ) k < S8x8192x256.size k :=
    forall3 (show _ < 8 by simp; omega) (show _ < 8192 by simp; omega) (show _ < 256 by simp; omega)
  rw [rd_of (α := EReal) (S := S1x8192x256) _ _ (fun k => ⟨_, h1 k⟩) fun _ => rfl, rd_of (α := EReal) (S := S8x8192x256) _ _ (fun k => ⟨_, h2 k⟩) fun _ => rfl]
  unfold iblk
  rw [View.read_apply]
  show V m c main_arg4 _ = V m c main_arg4 _
  congr 1
  funext k
  apply Fin.ext
  match k with
  | ⟨0, _⟩ =>
    show win0_4.index t 0 * 1 + 1 * 0 = t.val / 32
    rw [index4_0]; omega
  | ⟨1, _⟩ =>
    show win0_4.index t 1 * 8192 + 1 * a = a
    rw [index4_1]; omega
  | ⟨2, _⟩ =>
    show win0_4.index t 2 * 256 + 1 * b = b
    rw [index4_2]; omega

theorem index5_0 : ∀ t : Fin grid0.N, win0_5.index t 0 = t.val / 32 := by decide +kernel
theorem index5_1 : ∀ t : Fin grid0.N, win0_5.index t 1 = 0 := by decide +kernel
theorem index5_2 : ∀ t : Fin grid0.N, win0_5.index t 2 = 0 := by decide +kernel

/-- Window 5's block at point `t`. -/
theorem rd_blk5 (c : Dev nD) (t : Fin cfg0.N) (a b : ℕ) (ha : a < 2) (hb : b < 8192) :
    rd (α := EReal) (S := S1x2x8192) (iblk m c 5 t) ![0, a, b] = rd (α := EReal) (S := S8x2x8192) (V m c main_v2) ![t.val / 32, a, b] := by
  have ht := lt256 t
  have h1 : ∀ k : Fin 3, (![0, a, b] : Fin 3 → ℕ) k < S1x2x8192.size k := forall3 (show 0 < 1 by omega) ha hb
  have h2 : ∀ k : Fin 3, (![t.val / 32, a, b] : Fin 3 → ℕ) k < S8x2x8192.size k :=
    forall3 (show _ < 8 by simp; omega) (show _ < 2 by simp; omega) (show _ < 8192 by simp; omega)
  rw [rd_of (α := EReal) (S := S1x2x8192) _ _ (fun k => ⟨_, h1 k⟩) fun _ => rfl, rd_of (α := EReal) (S := S8x2x8192) _ _ (fun k => ⟨_, h2 k⟩) fun _ => rfl]
  unfold iblk
  rw [View.read_apply]
  show V m c main_v2 _ = V m c main_v2 _
  congr 1
  funext k
  apply Fin.ext
  match k with
  | ⟨0, _⟩ =>
    show win0_5.index t 0 * 1 + 1 * 0 = t.val / 32
    rw [index5_0]; omega
  | ⟨1, _⟩ =>
    show win0_5.index t 1 * 2 + 1 * a = a
    rw [index5_1]; omega
  | ⟨2, _⟩ =>
    show win0_5.index t 2 * 8192 + 1 * b = b
    rw [index5_2]; omega

theorem index6_0 : ∀ t : Fin grid0.N, win0_6.index t 0 = t.val / 32 := by decide +kernel
theorem index6_1 : ∀ t : Fin grid0.N, win0_6.index t 1 = t.val % 32 := by decide +kernel
theorem index6_2 : ∀ t : Fin grid0.N, win0_6.index t 2 = 0 := by decide +kernel

theorem index7_0 : ∀ t : Fin grid0.N, win0_7.index t 0 = t.val / 32 := by decide +kernel
theorem index7_1 : ∀ t : Fin grid0.N, win0_7.index t 1 = 0 := by decide +kernel
theorem index7_2 : ∀ t : Fin grid0.N, win0_7.index t 2 = t.val % 32 := by decide +kernel

end Cert.KernelIdeal.Val

end
-- ==== Proof.KernelRun.lean ====
/-
  The run of the kernel with what every grid point leaves: its block of codes and its block of scales.
-/
module

public import proofs.«01_k».proof.Proof.Blocks

@[expose] public section

set_option maxRecDepth 8192

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The row of outputs at row `r` of point `t`'s query tile. -/
def orow (c : Dev nD) (t : Fin cfg0.N) (r : ℕ) : ℕ → EReal :=
  krow (iblk m c 0 t) (iblk m c 1 t) (iblk m c 2 t) (iblk m c 3 t) (iblk m c 4 t) (iblk m c 5 t) (t.val % 32) r

/-- The block of codes point `t` leaves. -/
def outC (c : Dev nD) (t : Fin cfg0.N) : S1x256x2048.Idx → EReal :=
  fun x => code (orow m c t (x 1 : Fin 256).val) (x 2 : Fin 2048).val

/-- The block of scales point `t` leaves. -/
def outS (c : Dev nD) (t : Fin cfg0.N) : S1x1x256.Idx → EReal :=
  fun x => scl (orow m c t (x 2 : Fin 256).val)

theorem outC_eq (c : Dev nD) (t : Fin cfg0.N) (y : S1x256x2048.Idx → EReal)
    (h : ∀ r cc, r < 256 → cc < 2048 → rd y ![0, r, cc] = code (orow m c t r) cc) : y = outC m c t := by
  funext x
  have h0 : (x 0 : Fin 1).val = 0 := Nat.lt_one_iff.mp (x 0 : Fin 1).isLt
  exact (rd_of y ![0, (x 1 : Fin 256).val, (x 2 : Fin 2048).val] x (forall3 h0 rfl rfl)).symm.trans
    (h _ _ (x 1 : Fin 256).isLt (x 2 : Fin 2048).isLt)

theorem outS_eq (c : Dev nD) (t : Fin cfg0.N) (y : S1x1x256.Idx → EReal)
    (h : ∀ r, r < 256 → rd y ![0, 0, r] = scl (orow m c t r)) : y = outS m c t := by
  funext x
  have h0 : (x 0 : Fin 1).val = 0 := Nat.lt_one_iff.mp (x 0 : Fin 1).isLt
  have h1 : (x 1 : Fin 1).val = 0 := Nat.lt_one_iff.mp (x 1 : Fin 1).isLt
  exact (rd_of y ![0, 0, (x 2 : Fin 256).val] x (forall3 h0 h1 rfl)).symm.trans (h _ (x 2 : Fin 256).isLt)

/-- The prepared buffers hold the values and the key scales of batch `b`. -/
def PrepB (c : Dev nD) (b : ℕ) (x10 : S2x128x8192.Idx → EReal) (x11 : S2x8192x128.Idx → EReal) : Prop :=
  ∀ g j, g < 2 → j < 8192 →
    (∀ d, d < 128 → rd x10 ![g, d, j] = rd (α := EReal) (S := S8x8192x256) (V m c main_arg4) ![b, j, 128 * g + d]
      * rd (α := EReal) (S := S8x2x8192) (V m c main_v2) ![b, g, j])
    ∧ ∀ l, l < 128 → rd x11 ![g, j, l] = rd (α := EReal) (S := S8x2x8192) (V m c main_v1) ![b, g, j]

theorem prep_iff (c : Dev nD) (t : Fin cfg0.N) (x10 : S2x128x8192.Idx → EReal) (x11 : S2x8192x128.Idx → EReal) :
    Prep (iblk m c 3 t) (iblk m c 4 t) (iblk m c 5 t) 8192 x10 x11 ↔ PrepB m c (t.val / 32) x10 x11 := by
  unfold Prep PrepB
  refine forall_congr' fun g => forall_congr' fun j => forall_congr' fun hg => forall_congr' fun hj => ?_
  refine and_congr (forall_congr' fun d => forall_congr' fun hd => ?_) (forall_congr' fun l => forall_congr' fun hl => ?_)
  · rw [rd_blk4 m c t j (128 * g + d) hj (by omega), rd_blk5 m c t g j hg hj]
  · rw [rd_blk3 m c t g j hg hj]

/-- Between grid points: within a batch the prepared buffers hold the batch's values and key scales; the other two
    scratch buffers hold anything. -/
def Φt (c : Dev nD) (s : Fin (cfg0.N + 1)) : sProp 𝕄 :=
  iprop((∃ (f10 : Buf (Elt Ideal) ((c : Thread nD τ).loc cc0_scratch0)) (f11 : Buf (Elt Ideal) ((c : Thread nD τ).loc cc0_scratch1)),
      ⌜s.val % 32 ≠ 0 → PrepB m c (s.val / 32) f10 f11⌝ ∗ (((c : Thread nD τ).loc cc0_scratch0) ↦{fullShare} f10) ∗ (((c : Thread nD τ).loc cc0_scratch1) ↦{fullShare} f11))
    ∗ (∃ f12 : Buf (Elt Ideal) ((c : Thread nD τ).loc cc0_scratch2), ((c : Thread nD τ).loc cc0_scratch2) ↦{fullShare} f12)
    ∗ (∃ f13 : Buf (Elt Ideal) ((c : Thread nD τ).loc cc0_scratch3), ((c : Thread nD τ).loc cc0_scratch3) ↦{fullShare} f13)
    ∗ ∃ r, prngReg c r)

/-- The proof data: the arrays as the region finds them, every input block left in place, each result block as stated. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => outC m c t
    | 7 => outS m c t
  Φ s := Φt m c s
  q _ := fullShare
  owed _ := 0

theorem A_eq (c : Dev nD) (w : Fin cfg0.W) : (dats m 0 c).A w = V m c (Pipeline.arrRef spec0 w) := by
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  rw [show (dats m 0 c).Φ t.succ = Φt m c t.succ from rfl,
    show (dats m 0 c).Φ t.castSucc = Φt m c t.castSucc from rfl]
  unfold Φt
  unfold Dat.owesAt Pipeline.owesWithin
  rw [show (dats m 0 c).owed t.castSucc = 0 from rfl, show (dats m 0 c).owed t.succ = 0 from rfl]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [show (dats m 0 c).after 6 t = outC m c t from rfl]
  rw [show (dats m 0 c).after 7 t = outS m c t from rfl]
  have ht := lt256 t
  have hc1 : ((grid0.coords t) 1).val = t.val % 32 := coord1 t
  unfold owns
  iintro ⟨⟨⟨%g0, %g1, %hph, HS0, HS1⟩, ⟨%g2, HS2⟩, ⟨%g3, HS3⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%X6, %f6, -, H6⟩, ⟨%X7, %f7, -, H7⟩⟩
  have hP : k0_cond1 (grid0.coords t) ≠ 1#1 → Prep (iblk m c 3 t) (iblk m c 4 t) (iblk m c 5 t) 8192
      ((Memref.whole cc0_scratch0).view.read (Elt Ideal) g0) ((Memref.whole cc0_scratch1).view.read (Elt Ideal) g1) :=
    fun h => (prep_iff m c t g0 g1).mpr (hph fun h0 => h (cond1 t h0))
  rw [← e3, ← e4, ← e5] at hP
  iapply (wp_wand_r Idealize.ShloMosaic.frame (wpE (defs₀ (F := Ideal)) Variants.none (c : Thread nD τ) none) Set.univ)
  isplitl [H0 H1 H2 H3 H4 H5 H6 H7 HS0 HS1 HS2 HS3]
  · unfold bodyAt0
    iapply (body_val c (grid0.coords t) _ _ _ _ _ _ _ _ _ _ _ _ _ _ _ _ (Memref.whole cc0_scratch0) (Memref.isWhole_whole _) (Memref.whole cc0_scratch1) (Memref.isWhole_whole _) _ _ _ _ f0 f1 f2 f3 f4 f5 g0 g1 hP)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · rw [View.set_whole]; iexact HS0
    isplitl [HS1]; · rw [View.set_whole]; iexact HS1
    isplitl [HS2]; · iexists _; rw [View.set_whole]; iexact HS2
    iexists _; rw [View.set_whole]; iexact HS3
  · iintro %_ ⟨H0, H1, H2, H3, H4, H5, ⟨%h6, %v6, H6⟩, ⟨%h7, %v7, H7⟩, ⟨%h0, %h1, %hpr, HS0, HS1⟩, ⟨%h2, HS2⟩, ⟨%h3, HS3⟩⟩
    rw [e0, e1, e2, e3, e4, e5, hc1] at v6 v7
    rw [e3, e4, e5] at hpr
    have hpr' := (prep_iff m c t h0 h1).mp hpr
    isplitl [HS0 HS1 HS2 HS3 Hg]
    · isplitl [HS0 HS1]
      · iexists h0, h1
        isplitr [HS0 HS1]
        rotate_left
        · isplitl [HS0]; · rw [View.set_whole]; iexact HS0
          rw [View.set_whole]; iexact HS1
        · ipureintro
          intro hs
          have e : (t.succ : Fin (cfg0.N + 1)).val / 32 = t.val / 32 := by
            have : (t.succ : Fin (cfg0.N + 1)).val = t.val + 1 := rfl
            rw [this] at hs ⊢; omega
          rw [e]; exact hpr'
      isplitl [HS2]; · iexists h2; rw [View.set_whole]; iexact HS2
      isplitl [HS3]; · iexists h3; rw [View.set_whole]; iexact HS3
      iexact Hg
    isplitl [HW]; · iexact HW
    isplitl [H0]
    · iexists f0; isplitr; · ipureintro; exact e0
      iexact H0
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    isplitl [H6]
    · iexists h6; isplitr; swap; · iexact H6
      ipureintro; exact outC_eq m c t _ v6
    iexists h7; isplitr; swap; · iexact H7
    ipureintro; exact outS_eq m c t _ v7

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem phi_in (c : Dev nD) : Pipeline.ΦA cfg0.spec c ⊢ (dats m 0 c).Φ 0 := by
  rw [show (dats m 0 c).Φ 0 = Φt m c 0 from rfl]
  show Pipeline.ΦA spec0 c ⊢ _
  unfold Pipeline.ΦA Φt
  rw [scopedRest0_eq]
  iintro ⟨⟨⟨%g0, HS0⟩, ⟨%g1, HS1⟩, HS2, HS3⟩, Hg⟩
  isplitl [HS0 HS1]
  · iexists g0, g1
    isplitr [HS0 HS1]
    rotate_left
    · isplitl [HS0]; · iexact HS0
      iexact HS1
    · ipureintro
      intro h; exact absurd rfl h
  isplitl [HS2]; · iexact HS2
  isplitl [HS3]; · iexact HS3
  iexact Hg

theorem phi_out (c : Dev nD) : (dats m 0 c).Φ (Fin.last cfg0.N) ⊢ Pipeline.ΦA cfg0.spec c := by
  rw [show (dats m 0 c).Φ (Fin.last cfg0.N) = Φt m c (Fin.last cfg0.N) from rfl]
  show _ ⊢ Pipeline.ΦA spec0 c
  unfold Pipeline.ΦA Φt
  rw [scopedRest0_eq]
  iintro ⟨⟨%g0, %g1, %hph, HS0, HS1⟩, HS2, HS3, Hg⟩
  isplitl [HS0 HS1 HS2 HS3]
  · isplitl [HS0]; · iexists g0; iexact HS0
    isplitl [HS1]; · iexists g1; iexact HS1
    isplitl [HS2]; · iexact HS2
    iexact HS3
  iexact Hg

set_option backward.isDefEq.respectTransparency.types false in
theorem run_main : θ_run defs (onTc (τ := τ) (main (F := Ideal))) (s₀ m ρ)
    (Pipeline.FramePost cfgs (dats m) (0 : Fin 1) (V m)) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := phi_in m) (hout := phi_out m)

end Cert.KernelIdeal.Val

end
-- ==== Proof.Spec.lean ====
/-
  The mathematics both programs compute: causal attention of grouped heads with scaled codes, row by row, and what one
  grid point of the kernel has of it.
-/
module

public import proofs.«01_k».proof.Proof.BodyValue
public import Mathlib.Analysis.SpecialFunctions.Pow.Real

@[expose] public section

set_option maxRecDepth 8192

noncomputable section

namespace Cert.Attn

open Idealize.ShloMosaic

/-! ## A positive real factor and the order -/

theorem sup_mul_pos (s : Finset ℕ) (f : ℕ → EReal) (l : ℝ) (hl : 0 < l) :
    (s.sup fun j => f j * (l : EReal)) = s.sup f * (l : EReal) := by
  have hm : Monotone fun x : EReal => x * (l : EReal) := fun x y h =>
    mul_le_mul_of_nonneg_right h (by exact_mod_cast hl.le)
  have hb : (⊥ : EReal) * (l : EReal) = ⊥ := EReal.bot_mul_coe_of_pos hl
  exact (Finset.comp_sup_eq_sup_comp_of_is_total (g := fun x : EReal => x * (l : EReal)) hm hb).symm

theorem sub_mul_pos (x y : EReal) (l : ℝ) (hl : 0 < l) : (x - y) * (l : EReal) = x * (l : EReal) - y * (l : EReal) := by
  induction x using EReal.rec with
  | bot => rw [EReal.bot_mul_coe_of_pos hl, EReal.bot_sub, EReal.bot_sub, EReal.bot_mul_coe_of_pos hl]
  | top =>
    induction y using EReal.rec with
    | bot => rw [EReal.bot_mul_coe_of_pos hl, EReal.top_mul_coe_of_pos hl, EReal.top_sub_bot, EReal.top_mul_coe_of_pos hl]
    | top => rw [EReal.top_mul_coe_of_pos hl, EReal.sub_top, EReal.bot_mul_coe_of_pos hl]
    | coe y => rw [EReal.top_mul_coe_of_pos hl, EReal.top_sub_coe, EReal.top_mul_coe_of_pos hl, ← EReal.coe_mul, EReal.top_sub_coe]
  | coe x =>
    induction y using EReal.rec with
    | bot => rw [EReal.bot_mul_coe_of_pos hl, EReal.coe_sub_bot, EReal.top_mul_coe_of_pos hl, ← EReal.coe_mul, EReal.coe_sub_bot]
    | top => rw [EReal.top_mul_coe_of_pos hl, EReal.sub_top, EReal.sub_top, EReal.bot_mul_coe_of_pos hl]
    | coe y => rw [← EReal.coe_sub, ← EReal.coe_mul, ← EReal.coe_mul, ← EReal.coe_mul, ← EReal.coe_sub, sub_mul]

/-- A power of two of a logarithm's multiple is an exponential. -/
theorem exp2_log (z : EReal) : Ideal.exp2 (z * (((Real.log 2)⁻¹ : ℝ) : EReal)) = Ideal.exp z := by
  have h2 : 0 < Real.log 2 := Real.log_pos (by norm_num)
  have hl : 0 < (Real.log 2)⁻¹ := inv_pos.mpr h2
  induction z using EReal.rec with
  | bot => rw [EReal.bot_mul_coe_of_pos hl]; rfl
  | top => rw [EReal.top_mul_coe_of_pos hl]; rfl
  | coe z =>
    rw [← EReal.coe_mul]
    show ((Real.rpow 2 (z * (Real.log 2)⁻¹) : ℝ) : EReal) = ((Real.exp z : ℝ) : EReal)
    refine congrArg (fun r : ℝ => (r : EReal)) ?_
    show (2 : ℝ) ^ (z * (Real.log 2)⁻¹) = _
    rw [Real.rpow_def_of_pos (by norm_num)]
    refine congrArg Real.exp ?_
    field_simp

theorem sup_cut (n N : ℕ) (h : n ≤ N) (f : ℕ → EReal) (hf : ∀ j, n ≤ j → f j = ⊥) :
    (Finset.range N).sup f = (Finset.range n).sup f := by
  refine le_antisymm (Finset.sup_le fun j _ => ?_) (Finset.sup_mono (Finset.range_mono h))
  by_cases hj : j < n
  · exact Finset.le_sup (Finset.mem_range.mpr hj)
  · rw [hf j (by omega)]; exact bot_le

theorem sum_cut (n N : ℕ) (h : n ≤ N) (f : ℕ → EReal) (hf : ∀ j, n ≤ j → f j = 0) :
    ∑ j ∈ Finset.range N, f j = ∑ j ∈ Finset.range n, f j := by
  refine (Finset.sum_subset (Finset.range_mono h) fun j _ hj => hf j ?_).symm
  rw [Finset.mem_range] at hj; omega

/-! ## Attention -/

section

variable (X XS K KS V VS : ℕ → ℕ → ℕ → EReal)

/-- The softmax scale, one over the root of the head width. -/
def cS : EReal := (((Real.sqrt 128)⁻¹ : ℝ) : EReal)

/-- The score of query `q` against key `j` in head `h`, `⊥` for a later key. -/
def score (b h q j : ℕ) : EReal :=
  if j ≤ q then (∑ d : Fin 128, X b q (128 * h + (d : ℕ)) * K b j (128 * (h / 8) + (d : ℕ))) * XS b q h * KS b j (h / 8) * cS
  else ⊥

/-- The largest score of a query. -/
def smax (b h q : ℕ) : EReal := (Finset.range 8192).sup (score X XS K KS b h q)

/-- The weight of a key before normalising. -/
def wgt (b h q j : ℕ) : EReal := Ideal.exp (score X XS K KS b h q j - smax X XS K KS b h q)

/-- The sum of a query's weights. -/
def wsum (b h q : ℕ) : EReal := ∑ j ∈ Finset.range 8192, wgt X XS K KS b h q j

/-- The attention output of query `q` in column `cc`: head `cc / 128`, lane `cc % 128`. -/
def att (b q cc : ℕ) : EReal :=
  ∑ j ∈ Finset.range 8192, wgt X XS K KS b (cc / 128) q j * Ideal.div 1 (wsum X XS K KS b (cc / 128) q)
    * VS b j (cc / 128 / 8) * V b j (128 * (cc / 128 / 8) + cc % 128)

theorem wgt_zero (b h q j : ℕ) (hj : q < j) : wgt X XS K KS b h q j = 0 := by
  unfold wgt score
  rw [if_neg (by omega), EReal.bot_sub]
  rfl

end

end Cert.Attn

namespace Cert.KernelIdeal.Val

open Cert.KernelIdeal Cert.Attn
open Idealize.ShloMosaic

section

variable {X XS K KS V VS : ℕ → ℕ → ℕ → EReal}
variable {x2 : S1x256x2048.Idx → EReal} {x3 : S1x16x256.Idx → EReal} {x4 : S1x8192x256.Idx → EReal}
  {x5 : S1x2x8192.Idx → EReal} {x6 : S1x8192x256.Idx → EReal} {x7 : S1x2x8192.Idx → EReal} {b qi : ℕ}

/-- The kernel's score is the score over the logarithm of two. -/
theorem ks_eq (hx : ∀ r cc, r < 256 → cc < 2048 → rd x2 ![0, r, cc] = X b (256 * qi + r) cc)
    (hxs : ∀ h r, h < 16 → r < 256 → rd x3 ![0, h, r] = XS b (256 * qi + r) h)
    (hk : ∀ j cc, j < 8192 → cc < 256 → rd x4 ![0, j, cc] = K b j cc)
    (hks : ∀ g j, g < 2 → j < 8192 → rd x5 ![0, g, j] = KS b j g)
    (h j r : ℕ) (hh : h < 16) (hq : qi < 32) (hr : r < 256) :
    ks x2 x3 x4 x5 (h / 8) h qi j r = score X XS K KS b h (256 * qi + r) j * (((Real.log 2)⁻¹ : ℝ) : EReal) := by
  have h2 : 0 < (Real.log 2)⁻¹ := inv_pos.mpr (Real.log_pos (by norm_num))
  unfold ks score
  by_cases hj : j ≤ 256 * qi + r
  · rw [if_pos hj, if_pos hj, hks _ j (by omega) (by omega), hxs h r hh hr]
    rw [Finset.sum_congr rfl fun (d : Fin 128) _ => by
      rw [hk j _ (by omega) (by omega : 128 * (h / 8) + (d : ℕ) < 256), hx r _ hr (by omega : 128 * h + (d : ℕ) < 2048), mul_comm]]
    rw [show cK = cS * (((Real.log 2)⁻¹ : ℝ) : EReal) from by unfold cK cS; rw [← EReal.coe_mul]]
    simp only [mul_assoc, mul_comm, mul_left_comm]
  · rw [if_neg hj, if_neg hj, EReal.bot_mul_coe_of_pos h2]

theorem rmax_eq (hx : ∀ r cc, r < 256 → cc < 2048 → rd x2 ![0, r, cc] = X b (256 * qi + r) cc)
    (hxs : ∀ h r, h < 16 → r < 256 → rd x3 ![0, h, r] = XS b (256 * qi + r) h)
    (hk : ∀ j cc, j < 8192 → cc < 256 → rd x4 ![0, j, cc] = K b j cc)
    (hks : ∀ g j, g < 2 → j < 8192 → rd x5 ![0, g, j] = KS b j g)
    (h r : ℕ) (hh : h < 16) (hq : qi < 32) (hr : r < 256) :
    rmax (ks x2 x3 x4 x5 (h / 8) h qi) (256 * qi + 256) r
      = smax X XS K KS b h (256 * qi + r) * (((Real.log 2)⁻¹ : ℝ) : EReal) := by
  have h2 : 0 < (Real.log 2)⁻¹ := inv_pos.mpr (Real.log_pos (by norm_num))
  unfold rmax smax
  rw [sup_cut (256 * qi + 256) 8192 (by omega) _ fun j hj => by unfold score; rw [if_neg (by omega)],
    ← sup_mul_pos _ _ _ h2]
  exact Finset.sup_congr rfl fun j _ => ks_eq hx hxs hk hks h j r hh hq hr

theorem wt_eq (hx : ∀ r cc, r < 256 → cc < 2048 → rd x2 ![0, r, cc] = X b (256 * qi + r) cc)
    (hxs : ∀ h r, h < 16 → r < 256 → rd x3 ![0, h, r] = XS b (256 * qi + r) h)
    (hk : ∀ j cc, j < 8192 → cc < 256 → rd x4 ![0, j, cc] = K b j cc)
    (hks : ∀ g j, g < 2 → j < 8192 → rd x5 ![0, g, j] = KS b j g)
    (h j r : ℕ) (hh : h < 16) (hq : qi < 32) (hr : r < 256) :
    wt (ks x2 x3 x4 x5 (h / 8) h qi) (256 * qi + 256) j r = wgt X XS K KS b h (256 * qi + r) j := by
  have h2 : 0 < (Real.log 2)⁻¹ := inv_pos.mpr (Real.log_pos (by norm_num))
  unfold wt wgt
  rw [ks_eq hx hxs hk hks h j r hh hq hr, rmax_eq hx hxs hk hks h r hh hq hr, ← sub_mul_pos _ _ _ h2, exp2_log]

theorem den_eq (hx : ∀ r cc, r < 256 → cc < 2048 → rd x2 ![0, r, cc] = X b (256 * qi + r) cc)
    (hxs : ∀ h r, h < 16 → r < 256 → rd x3 ![0, h, r] = XS b (256 * qi + r) h)
    (hk : ∀ j cc, j < 8192 → cc < 256 → rd x4 ![0, j, cc] = K b j cc)
    (hks : ∀ g j, g < 2 → j < 8192 → rd x5 ![0, g, j] = KS b j g)
    (h r : ℕ) (hh : h < 16) (hq : qi < 32) (hr : r < 256) :
    den (ks x2 x3 x4 x5 (h / 8) h qi) (256 * qi + 256) r = wsum X XS K KS b h (256 * qi + r) := by
  unfold den wsum
  rw [sum_cut (256 * qi + 256) 8192 (by omega) _ fun j hj => wgt_zero X XS K KS b h _ j (by omega)]
  exact Finset.sum_congr rfl fun j _ => wt_eq hx hxs hk hks h j r hh hq hr

/-- One row of the kernel's outputs is the attention's. -/
theorem krow_eq (hx : ∀ r cc, r < 256 → cc < 2048 → rd x2 ![0, r, cc] = X b (256 * qi + r) cc)
    (hxs : ∀ h r, h < 16 → r < 256 → rd x3 ![0, h, r] = XS b (256 * qi + r) h)
    (hk : ∀ j cc, j < 8192 → cc < 256 → rd x4 ![0, j, cc] = K b j cc)
    (hks : ∀ g j, g < 2 → j < 8192 → rd x5 ![0, g, j] = KS b j g)
    (hv : ∀ j cc, j < 8192 → cc < 256 → rd x6 ![0, j, cc] = V b j cc)
    (hvs : ∀ g j, g < 2 → j < 8192 → rd x7 ![0, g, j] = VS b j g)
    (r cc : ℕ) (hq : qi < 32) (hr : r < 256) (hc : cc < 2048) :
    krow x2 x3 x4 x5 x6 x7 qi r cc = att X XS K KS V VS b (256 * qi + r) cc := by
  unfold krow kout att
  rw [sum_cut (256 * qi + 256) 8192 (by omega) _ fun j hj => by
    rw [wgt_zero X XS K KS b _ _ j (by omega), zero_mul, zero_mul, zero_mul]]
  refine Finset.sum_congr rfl fun j hj => ?_
  have hj' : j < 8192 := by have := Finset.mem_range.mp hj; omega
  rw [hv j _ hj' (by omega), hvs _ j (by omega) hj', wt_eq hx hxs hk hks (cc / 128) j r (by omega) hq hr,
    den_eq hx hxs hk hks (cc / 128) r (by omega) hq hr]
  simp only [mul_assoc, mul_comm, mul_left_comm]

end

end Cert.KernelIdeal.Val

end
-- ==== Proof.Result.lean ====
/-
  The two result arrays, in terms of the six arguments.
-/
module

public import proofs.«01_k».proof.Proof.Spec

@[expose] public section

noncomputable section

namespace Cert.Attn

open Idealize.ShloMosaic

/-- A three-axis array at natural coordinates. -/
def at3 {n0 n1 n2 : ℕ} (x : (⟨3, ![n0, n1, n2]⟩ : Shape).Idx → EReal) (a b c : ℕ) : EReal := rd x ![a, b, c]

variable (x : (⟨3, ![8, 8192, 2048]⟩ : Shape).Idx → EReal) (xs : (⟨3, ![8, 8192, 16]⟩ : Shape).Idx → EReal)
  (k : (⟨3, ![8, 8192, 256]⟩ : Shape).Idx → EReal) (ks : (⟨3, ![8, 8192, 2]⟩ : Shape).Idx → EReal)
  (v : (⟨3, ![8, 8192, 256]⟩ : Shape).Idx → EReal) (vs : (⟨3, ![8, 8192, 2]⟩ : Shape).Idx → EReal)

/-- The attention row of batch `b` and query `q`. -/
def attRow (b q : ℕ) : ℕ → EReal := att (at3 x) (at3 xs) (at3 k) (at3 ks) (at3 v) (at3 vs) b q

/-- The codes. -/
def resC : (⟨3, ![8, 8192, 2048]⟩ : Shape).Idx → EReal := fun i =>
  code (attRow x xs k ks v vs (i 0 : Fin 8).val (i 1 : Fin 8192).val) (i 2 : Fin 2048).val

/-- The scales. -/
def resS : (⟨3, ![8, 1, 8192]⟩ : Shape).Idx → EReal := fun i =>
  scl (attRow x xs k ks v vs (i 0 : Fin 8).val (i 2 : Fin 8192).val)

end Cert.Attn

end
-- ==== Proof.KernelValue.lean ====
/-
  What the kernel leaves in its two results: the result arrays.
-/
module

public import proofs.«01_k».proof.Proof.KernelRun
public import proofs.«01_k».proof.Proof.Result
public import Idealize.ShloMosaic.Lib.Claim

@[expose] public section

set_option maxRecDepth 8192

noncomputable section

namespace Cert.KernelIdeal.Val

open Cert.KernelIdeal Cert.KernelIdeal.Gen Cert.Attn
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- Reading a transposed array is reading the array with its last two coordinates exchanged. -/
theorem rd_swap {n0 n1 n2 : ℕ} (x : (⟨3, ![n0, n1, n2]⟩ : Shape).Idx → EReal) (y : (⟨3, ![n0, n2, n1]⟩ : Shape).Idx → EReal)
    (h : ∀ (a : Fin n0) (b : Fin n1) (c : Fin n2), y (ix3 a c b) = x (ix3 a b c)) (a b c : ℕ)
    (ha : a < n0) (hb : b < n1) (hc : c < n2) : rd y ![a, c, b] = at3 x a b c :=
  (rd3 y ⟨a, ha⟩ ⟨c, hc⟩ ⟨b, hb⟩).symm.trans ((h _ _ _).trans (rd3 x ⟨a, ha⟩ ⟨b, hb⟩ ⟨c, hc⟩))

theorem V_v0 (c : Dev nD) (b q h : ℕ) (hb : b < 8) (hq : q < 8192) (hh : h < 16) :
    rd (α := EReal) (S := S8x16x8192) (V m c main_v0) ![b, h, q] = at3 (n0 := 8) (n1 := 8192) (n2 := 16) (m ((c.tc : Thread nD τ).loc main_arg1)) b q h := by
  refine rd_swap _ _ (fun a b' c' => ?_) b q h hb hq hh
  entry_read
  refine congrArg (m ((c.tc : Thread nD τ).loc main_arg1)) (funext fun k => ?_)
  match k with
  | 0 => rfl
  | 1 => rfl
  | 2 => rfl

theorem V_v1 (c : Dev nD) (b j g : ℕ) (hb : b < 8) (hj : j < 8192) (hg : g < 2) :
    rd (α := EReal) (S := S8x2x8192) (V m c main_v1) ![b, g, j] = at3 (n0 := 8) (n1 := 8192) (n2 := 2) (m ((c.tc : Thread nD τ).loc main_arg3)) b j g := by
  refine rd_swap _ _ (fun a b' c' => ?_) b j g hb hj hg
  entry_read
  refine congrArg (m ((c.tc : Thread nD τ).loc main_arg3)) (funext fun k => ?_)
  match k with
  | 0 => rfl
  | 1 => rfl
  | 2 => rfl

theorem V_v2 (c : Dev nD) (b j g : ℕ) (hb : b < 8) (hj : j < 8192) (hg : g < 2) :
    rd (α := EReal) (S := S8x2x8192) (V m c main_v2) ![b, g, j] = at3 (n0 := 8) (n1 := 8192) (n2 := 2) (m ((c.tc : Thread nD τ).loc main_arg5)) b j g := by
  refine rd_swap _ _ (fun a b' c' => ?_) b j g hb hj hg
  entry_read
  refine congrArg (m ((c.tc : Thread nD τ).loc main_arg5)) (funext fun k => ?_)
  match k with
  | 0 => rfl
  | 1 => rfl
  | 2 => rfl

/-- The attention row of device `c`'s arguments. -/
def row (c : Dev nD) (b q : ℕ) : ℕ → EReal :=
  attRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) b q

/-- The codes of device `c`'s arguments. -/
def codes (c : Dev nD) : Buf (Elt Ideal) ((c.tc : Thread nD τ).loc main_v3_0) :=
  resC (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The scales of device `c`'s arguments. -/
def scales (c : Dev nD) : Buf (Elt Ideal) ((c.tc : Thread nD τ).loc main_v3_1) :=
  resS (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- A row of a point's tile is the attention row of its batch and query. -/
theorem orow_eq (c : Dev nD) (t : Fin cfg0.N) (r : ℕ) (hr : r < 256) (cc : ℕ) (hc : cc < 2048) :
    orow m c t r cc = row m c (t.val / 32) (256 * (t.val % 32) + r) cc := by
  have ht := lt256 t
  have hb : t.val / 32 < 8 := by omega
  unfold orow row attRow
  refine krow_eq (fun r cc hr hcc => ?_) (fun h r hh hr => ?_) (fun j cc hj hcc => ?_) (fun g j hg hj => ?_) (fun j cc hj hcc => ?_)
    (fun g j hg hj => ?_) r cc (by omega) hr hc
  · rw [rd_blk0 m c t r cc hr hcc, V_main_arg0 m c]; rfl
  · rw [rd_blk1 m c t h r hh hr]
    exact V_v0 m c _ _ _ hb (by omega) hh
  · rw [rd_blk2 m c t j cc hj hcc, V_main_arg2 m c]; rfl
  · rw [rd_blk3 m c t g j hg hj]
    exact V_v1 m c _ _ _ hb hj hg
  · rw [rd_blk4 m c t j cc hj hcc, V_main_arg4 m c]; rfl
  · rw [rd_blk5 m c t g j hg hj]
    exact V_v2 m c _ _ _ hb hj hg

theorem off_batch {i b a : ℕ} (hi : i = b) (ha : a = 0) : i * 1 + 1 * a = b := by omega

theorem off_tile {i q : ℕ} (hi : i = q) (a : ℕ) : i * 256 + 1 * a = 256 * q + a := by omega

theorem off_zero {i n : ℕ} (hi : i = 0) (a : ℕ) : i * n + 1 * a = a := by subst hi; omega

theorem flushed6 (c : Dev nD) (t : Fin cfg0.N) :
    (dats m 0 c).flushed 6 t = ((cfg0.win 6).blk t).view.read (Elt Ideal) (codes m c) := by
  show (cfg0.win 6).cut (grid0.coords t) ((dats m 0 c).after 6 t) = _
  funext x
  rw [View.read_apply]
  have h1 : (x 1 : Fin 256).val < 256 := (x 1 : Fin 256).isLt
  have h0 : (x 0 : Fin 1).val = 0 := Nat.lt_one_iff.mp (x 0 : Fin 1).isLt
  show code (orow m c t (x 1 : Fin 256).val) (x 2 : Fin 2048).val = _
  refine (code_congr (fun cc hc => orow_eq m c t _ h1 cc hc) (x 2 : Fin 2048).isLt).trans ?_
  have e0 : win0_6.index t 0 * 1 + 1 * (x 0 : Fin 1).val = t.val / 32 := off_batch (index6_0 t) h0
  have e1 : win0_6.index t 1 * 256 + 1 * (x 1 : Fin 256).val = 256 * (t.val % 32) + (x 1 : Fin 256).val := off_tile (index6_1 t) _
  have e2 : win0_6.index t 2 * 2048 + 1 * (x 2 : Fin 2048).val = (x 2 : Fin 2048).val := off_zero (index6_2 t) _
  show _ = code (row m c (win0_6.index t 0 * 1 + 1 * (x 0 : Fin 1).val) (win0_6.index t 1 * 256 + 1 * (x 1 : Fin 256).val))
    (win0_6.index t 2 * 2048 + 1 * (x 2 : Fin 2048).val)
  rw [e0, e1, e2]

theorem flushed7 (c : Dev nD) (t : Fin cfg0.N) :
    (dats m 0 c).flushed 7 t = ((cfg0.win 7).blk t).view.read (Elt Ideal) (scales m c) := by
  show (cfg0.win 7).cut (grid0.coords t) ((dats m 0 c).after 7 t) = _
  funext x
  rw [View.read_apply]
  have h2 : (x 2 : Fin 256).val < 256 := (x 2 : Fin 256).isLt
  have h0 : (x 0 : Fin 1).val = 0 := Nat.lt_one_iff.mp (x 0 : Fin 1).isLt
  show scl (orow m c t (x 2 : Fin 256).val) = _
  refine (scl_congr (fun cc hc => orow_eq m c t _ h2 cc hc)).trans ?_
  have e0 : win0_7.index t 0 * 1 + 1 * (x 0 : Fin 1).val = t.val / 32 := off_batch (index7_0 t) h0
  have e2 : win0_7.index t 2 * 256 + 1 * (x 2 : Fin 256).val = 256 * (t.val % 32) + (x 2 : Fin 256).val := off_tile (index7_2 t) _
  show _ = scl (row m c (win0_7.index t 0 * 1 + 1 * (x 0 : Fin 1).val) (win0_7.index t 2 * 256 + 1 * (x 2 : Fin 256).val))
  rw [e0, e2]

theorem final6 (c : Dev nD) : (dats m 0 c).arrAt 6 cfg0.N = codes m c :=
  (dats m 0 c).arrAt_eq_of_cover 6 (codes m c) (fun t _ => flushed6 m c t) fun i => by
    have h0 : (i 0 : Fin 8).val < 8 := (i 0 : Fin 8).isLt
    have h1 : (i 1 : Fin 8192).val < 8192 := (i 1 : Fin 8192).isLt
    have h2 : (i 2 : Fin 2048).val < 2048 := (i 2 : Fin 2048).isLt
    have ht : 32 * (i 0 : Fin 8).val + (i 1 : Fin 8192).val / 256 < cfg0.N := lt_of_lt_of_eq (by omega) N_0.symm
    refine ⟨⟨_, ht⟩, flush0_6 _, ?_⟩
    show i ∈ ((View.whole main_v3_0).slice (win0_6.rect ⟨_, ht⟩)).set
    rw [View.set_slice_whole, Rect.mem_set_unit]
    intro a
    match a with
    | ⟨0, _⟩ =>
      show win0_6.index ⟨_, ht⟩ 0 * 1 ≤ (i 0 : Fin 8).val ∧ (i 0 : Fin 8).val < win0_6.index ⟨_, ht⟩ 0 * 1 + 1
      rw [index6_0]; dsimp only; omega
    | ⟨1, _⟩ =>
      show win0_6.index ⟨_, ht⟩ 1 * 256 ≤ (i 1 : Fin 8192).val ∧ (i 1 : Fin 8192).val < win0_6.index ⟨_, ht⟩ 1 * 256 + 256
      rw [index6_1]; dsimp only; omega
    | ⟨2, _⟩ =>
      show win0_6.index ⟨_, ht⟩ 2 * 2048 ≤ (i 2 : Fin 2048).val ∧ (i 2 : Fin 2048).val < win0_6.index ⟨_, ht⟩ 2 * 2048 + 2048
      rw [index6_2]; omega

theorem final7 (c : Dev nD) : (dats m 0 c).arrAt 7 cfg0.N = scales m c :=
  (dats m 0 c).arrAt_eq_of_cover 7 (scales m c) (fun t _ => flushed7 m c t) fun i => by
    have h0 : (i 0 : Fin 8).val < 8 := (i 0 : Fin 8).isLt
    have h1 : (i 1 : Fin 1).val < 1 := (i 1 : Fin 1).isLt
    have h2 : (i 2 : Fin 8192).val < 8192 := (i 2 : Fin 8192).isLt
    have ht : 32 * (i 0 : Fin 8).val + (i 2 : Fin 8192).val / 256 < cfg0.N := lt_of_lt_of_eq (by omega) N_0.symm
    refine ⟨⟨_, ht⟩, flush0_7 _, ?_⟩
    show i ∈ ((View.whole main_v3_1).slice (win0_7.rect ⟨_, ht⟩)).set
    rw [View.set_slice_whole, Rect.mem_set_unit]
    intro a
    match a with
    | ⟨0, _⟩ =>
      show win0_7.index ⟨_, ht⟩ 0 * 1 ≤ (i 0 : Fin 8).val ∧ (i 0 : Fin 8).val < win0_7.index ⟨_, ht⟩ 0 * 1 + 1
      rw [index7_0]; dsimp only; omega
    | ⟨1, _⟩ =>
      show win0_7.index ⟨_, ht⟩ 1 * 1 ≤ (i 1 : Fin 1).val ∧ (i 1 : Fin 1).val < win0_7.index ⟨_, ht⟩ 1 * 1 + 1
      rw [index7_1]; omega
    | ⟨2, _⟩ =>
      show win0_7.index ⟨_, ht⟩ 2 * 256 ≤ (i 2 : Fin 8192).val ∧ (i 2 : Fin 8192).val < win0_7.index ⟨_, ht⟩ 2 * 256 + 256
      rw [index7_2]; dsimp only; omega

/-- The kernel ends with the codes and the scales of its arguments, and the arguments kept. -/
theorem run : θ_run defs (onTc (τ := τ) (main (F := Ideal))) ⟨m, fun _ => 0, ρ⟩ (fun r => ∀ c : Dev nD,
      r.2.mem ((c.tc : Thread nD τ).loc main_v3_0) = codes m c
      ∧ r.2.mem ((c.tc : Thread nD τ).loc main_v3_1) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Val

end
-- ==== Proof.Exponent.lean ====
/-
  The exponent of a row's scale: counting the powers of two below a ratio and taking the floor of its logarithm give the
  same power of two.
-/
module

public import proofs.«01_k».proof.Proof.Quant
public import Mathlib.Analysis.SpecialFunctions.Pow.Real

@[expose] public section

set_option maxRecDepth 8192

noncomputable section

namespace Cert.Attn

open Idealize.ShloMosaic

/-! ## The powers of two as patterns -/

theorem pat_fields : ∀ f : Fin 255,
    ((IntOp.shli ArithUnit.vector (BitVec.ofNat 32 f.val) 23#32).extractLsb' 31 1 == 1#1) = false
    ∧ ((IntOp.shli ArithUnit.vector (BitVec.ofNat 32 f.val) 23#32).extractLsb' 23 8).toNat = f.val
    ∧ ((IntOp.shli ArithUnit.vector (BitVec.ofNat 32 f.val) 23#32).extractLsb' 0 23).toNat = 0 := by
  decide +kernel

theorem ofBits_f32 (b : BitVec 32) : Ideal.ofBits .f32 b = Ideal.ieee 8 23 b := rfl

/-- A pattern with a positive sign and a normal exponent field. -/
theorem ieee_normal (b : BitVec 32) (ex fr : ℕ) (h0 : 0 < ex) (h1 : ex < 255) (e1 : (b.extractLsb' 31 1 == 1#1) = false)
    (e2 : (b.extractLsb' 23 8).toNat = ex) (e3 : (b.extractLsb' 0 23).toNat = fr) :
    Ideal.ieee 8 23 b = (((2 ^ 23 + fr : ℕ) * (2 : ℝ) ^ ((ex : ℤ) - 150) : ℝ) : EReal) := by
  unfold Ideal.ieee
  simp only [Nat.reduceAdd]
  rw [e1, e2, e3, if_neg (by omega), if_neg (by omega)]
  congr 1
  rw [show ((ex : ℤ) - (2 ^ (8 - 1) - 1) - (23 : ℕ)) = (ex : ℤ) - 150 from by omega]
  norm_num

theorem ieee_zero (b : BitVec 32) (e1 : (b.extractLsb' 31 1 == 1#1) = false)
    (e2 : (b.extractLsb' 23 8).toNat = 0) (e3 : (b.extractLsb' 0 23).toNat = 0) :
    Ideal.ieee 8 23 b = 0 := by
  unfold Ideal.ieee
  simp only [Nat.reduceAdd]
  rw [e1, e2, e3, if_neg (by omega), if_pos rfl]
  norm_num

/-- A pattern with a zero significand is the power of two its exponent field names. -/
theorem pow_bits (f : ℕ) (h0 : 0 < f) (h1 : f < 255) :
    Ideal.ofBits .f32 (IntOp.shli ArithUnit.vector (BitVec.ofNat 32 f) 23#32) = (((2 : ℝ) ^ ((f : ℤ) - 127) : ℝ) : EReal) := by
  obtain ⟨e1, e2, e3⟩ := pat_fields ⟨f, h1⟩
  rw [ofBits_f32, ieee_normal _ f 0 h0 h1 e1 e2 e3]
  have h23 : ((2 ^ 23 + 0 : ℕ) : ℝ) = (2 : ℝ) ^ (23 : ℤ) := by norm_num
  rw [h23, ← zpow_add₀ (show (2 : ℝ) ≠ 0 by norm_num), show (23 : ℤ) + ((f : ℤ) - 150) = (f : ℤ) - 127 from by ring]

/-- The pattern of zero is zero. -/
theorem zero_bits (f : ℕ) (h0 : f = 0) : Ideal.ofBits .f32 (IntOp.shli ArithUnit.vector (BitVec.ofNat 32 f) 23#32) = 0 := by
  obtain ⟨e1, e2, e3⟩ := pat_fields ⟨f, by omega⟩
  rw [ofBits_f32]
  exact ieee_zero _ e1 (e2.trans h0) e3

/-! ## Counting -/

theorem fold_flags (n : ℕ) (p : Fin n → Bool) (s : Finset (Fin n)) :
    Finset.fold IntOp.addi 0#32 (fun k => BitVec.setWidth 32 (BitVec.ofBool (p k))) s
      = BitVec.ofNat 32 (∑ k ∈ s, if p k = true then 1 else 0) := by
  classical
  induction s using Finset.induction_on with
  | empty => simp
  | insert a s ha ih =>
    rw [Finset.fold_insert ha, Finset.sum_insert ha, ih]
    show _ + _ = _
    rw [BitVec.ofNat_add]
    congr 1
    cases h : p a
    · simp
    · simp

theorem count_eq (x : EReal) (F : ℕ) (hF : F < 247)
    (h : ∀ k, k < 247 → (Ideal.ofBits .f32 (IntOp.shli ArithUnit.vector (BitVec.ofNat 32 k) 23#32) ≤ x ↔ k ≤ F)) :
    count x = BitVec.ofNat 32 (F + 1) := by
  unfold count
  refine (fold_flags 247 _ _).trans ?_
  refine congrArg (BitVec.ofNat 32) ?_
  have e2 : ∀ k : Fin 247, (if decide (Ideal.ofBits .f32 (IntOp.shli ArithUnit.vector (BitVec.ofNat 32 (k : ℕ)) 23#32) ≤ x) = true
      then 1 else 0) = (fun n : ℕ => if n ≤ F then 1 else 0) k.val := by
    intro k
    dsimp only
    simp only [decide_eq_true_eq]
    by_cases hk : (k : ℕ) ≤ F
    · rw [if_pos hk, if_pos ((h k k.isLt).mpr hk)]
    · rw [if_neg hk, if_neg (mt (h k k.isLt).mp hk)]
  rw [Finset.sum_congr rfl fun k _ => e2 k, Fin.sum_univ_eq_sum_range (fun n : ℕ => if n ≤ F then 1 else 0) 247, Finset.sum_boole]
  rw [show (Finset.range 247).filter (· ≤ F) = Finset.range (F + 1) from by
    ext n; simp only [Finset.mem_filter, Finset.mem_range]; omega]
  simp

/-! ## The exponent -/

/-- The factor that makes a magnitude a ratio to the format's largest. -/
def cR : EReal := Ideal.ofBits .f32 991054117#32

theorem cR_pos : ∃ r : ℝ, 0 < r ∧ cR = (r : EReal) := by
  unfold cR
  rw [ofBits_f32, ieee_normal _ 118 1198373 (by omega) (by omega) (by decide) (by decide) (by decide)]
  exact ⟨_, by positivity, rfl⟩

/-- The exponent of a ratio: one above the floor of its logarithm, clipped. -/
def flr (x : EReal) : EReal :=
  min ((120 : ℝ) : EReal) (max ((-126 : ℝ) : EReal)
    (Ideal.liftRound Int.floor (Ideal.div (Ideal.log x) ((Real.log 2 : ℝ) : EReal)) + ((1 : ℝ) : EReal)))

/-- The exponent of a row's scale. -/
def eRef (a : EReal) : EReal := if a = 0 then 0 else flr (a * cR)

theorem pow_le_iff (x : ℝ) (hx : 0 < x) (n : ℤ) : (2 : ℝ) ^ n ≤ x ↔ n ≤ ⌊Real.log x / Real.log 2⌋ := by
  have h2 : 0 < Real.log 2 := Real.log_pos (by norm_num)
  rw [Int.le_floor, le_div_iff₀ h2, ← Real.log_zpow, Real.log_le_log_iff (by positivity) hx]

theorem flr_real (x : ℝ) (hx : 0 < x) :
    flr (x : EReal) = (((min 120 (max (-126) (⌊Real.log x / Real.log 2⌋ + 1)) : ℤ) : ℝ) : EReal) := by
  have h2 : 0 < Real.log 2 := Real.log_pos (by norm_num)
  unfold flr
  rw [show Ideal.log (x : EReal) = ((Real.log x : ℝ) : EReal) from if_neg (not_le.mpr hx)]
  rw [show Ideal.div ((Real.log x : ℝ) : EReal) ((Real.log 2 : ℝ) : EReal) = ((Real.log x / Real.log 2 : ℝ) : EReal) from by
    unfold Ideal.div
    rw [if_neg (by exact_mod_cast h2.ne')]
    rw [← EReal.coe_inv, ← EReal.coe_mul, div_eq_mul_inv]]
  show min _ (max _ ((((⌊Real.log x / Real.log 2⌋ : ℤ) : ℝ) : EReal) + _)) = _
  rw [← EReal.coe_add]
  rw [show ((min 120 (max (-126) (⌊Real.log x / Real.log 2⌋ + 1)) : ℤ) : ℝ)
      = min (120 : ℝ) (max (-126 : ℝ) ((⌊Real.log x / Real.log 2⌋ : ℝ) + 1)) from by push_cast; rfl,
    EReal.coe_strictMono.monotone.map_min, EReal.coe_strictMono.monotone.map_max]

theorem flr_top : flr ⊤ = ((120 : ℝ) : EReal) := by
  have h2 : 0 < Real.log 2 := Real.log_pos (by norm_num)
  unfold flr
  rw [show Ideal.log ⊤ = ⊤ from rfl]
  rw [show Ideal.div ⊤ ((Real.log 2 : ℝ) : EReal) = ⊤ from by
    unfold Ideal.div
    rw [if_neg (by exact_mod_cast h2.ne'), ← EReal.coe_inv, EReal.top_mul_coe_of_pos (by positivity)]]
  show min _ (max _ (⊤ + _)) = _
  rw [EReal.top_add_coe, max_top_right, min_top_right]

/-- The count of a positive ratio names the clipped exponent. -/
theorem count_spec (x : EReal) (hx : 0 < x) :
    ∃ F : ℕ, F < 247 ∧ count x = BitVec.ofNat 32 (F + 1) ∧ flr x = (((F : ℤ) - 126 : ℤ) : ℝ) := by
  induction x using EReal.rec with
  | bot => exact absurd hx (by simp)
  | top =>
    refine ⟨246, by omega, count_eq _ _ (by omega) fun k hk => ?_, ?_⟩
    · exact ⟨fun _ => by omega, fun _ => le_top⟩
    · rw [flr_top]; norm_num
  | coe x =>
    have hx' : 0 < x := by exact_mod_cast hx
    obtain ⟨L, hL⟩ : ∃ L : ℤ, L = ⌊Real.log x / Real.log 2⌋ := ⟨_, rfl⟩
    refine ⟨(min 246 (max 0 (L + 127))).toNat, by omega, count_eq _ _ (by omega) fun k hk => ?_, ?_⟩
    · rcases Nat.eq_zero_or_pos k with h0 | h0
      · subst h0
        rw [zero_bits 0 rfl]
        exact ⟨fun _ => by omega, fun _ => hx.le⟩
      · rw [pow_bits k h0 (by omega), EReal.coe_le_coe_iff, pow_le_iff x hx', ← hL]
        omega
    · rw [flr_real x hx', ← hL]
      congr 2
      omega

theorem expo_spec (a : EReal) (ha : 0 ≤ a) :
    ∃ f : ℕ, 1 ≤ f ∧ f ≤ 247 ∧ expo a = BitVec.ofNat 32 f - 127#32 ∧ eRef a = (((f : ℤ) - 127 : ℤ) : ℝ) := by
  obtain ⟨r, hr, hc⟩ := cR_pos
  have hz : a * cR = 0 ↔ a = 0 := by
    rw [hc, mul_eq_zero]
    exact ⟨fun h => h.resolve_right (by exact_mod_cast hr.ne'), Or.inl⟩
  unfold expo eRef
  by_cases h : a = 0
  · refine ⟨127, by omega, by omega, ?_, ?_⟩
    · rw [if_pos (show a * Ideal.ofBits .f32 991054117#32 = 0 from hz.mpr h)]; rfl
    · rw [if_pos h]; norm_num
  · have hpos : 0 < a * cR := lt_of_le_of_ne (mul_nonneg ha (by rw [hc]; exact_mod_cast hr.le)) (Ne.symm (mt hz.mp h))
    obtain ⟨F, hF, e1, e2⟩ := count_spec _ hpos
    refine ⟨F + 1, by omega, by omega, ?_, ?_⟩
    · rw [if_neg (show ¬ a * Ideal.ofBits .f32 991054117#32 = 0 from mt hz.mp h),
        show count (a * Ideal.ofBits .f32 991054117#32) = _ from e1]
      show _ - _ - _ = _
      apply BitVec.eq_of_toNat_eq
      simp only [BitVec.toNat_sub, BitVec.toNat_ofNat]
      omega
    · rw [if_neg h, e2]
      congr 2
      push_cast; ring

theorem amax_nonneg (o : ℕ → EReal) : 0 ≤ amax o := by
  refine le_trans ?_ (Finset.le_sup (f := fun cc => max (o cc) (-(o cc))) (Finset.mem_range.mpr (show 0 < 2048 by omega)))
  rcases le_total 0 (o 0) with h | h
  · exact le_max_of_le_left h
  · exact le_max_of_le_right (EReal.neg_nonneg.mpr h)

theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

/-- A row's scale is the power of two of its exponent. -/
theorem scl_eq (o : ℕ → EReal) : scl o = Ideal.exp2 (eRef (amax o)) := by
  obtain ⟨f, h1, h2, e1, e2⟩ := expo_spec _ (amax_nonneg o)
  unfold scl
  rw [e1, e2, exp2_int, show IntOp.addi (BitVec.ofNat 32 f - 127#32) 127#32 = BitVec.ofNat 32 f from by
    show _ + _ = _
    apply BitVec.eq_of_toNat_eq
    simp only [BitVec.toNat_sub, BitVec.toNat_add, BitVec.toNat_ofNat]
    omega]
  exact pow_bits f (by omega) (by omega)

/-- A code is the output over its row's scale, clipped. -/
theorem code_eq (o : ℕ → EReal) (cc : ℕ) :
    code o cc = min (Ideal.ofBits .f32 1138753536#32) (max (Ideal.ofBits .f32 3286237184#32)
      (o cc * Ideal.exp2 (0 - eRef (amax o)))) := by
  obtain ⟨f, h1, h2, e1, e2⟩ := expo_spec _ (amax_nonneg o)
  unfold code
  rw [e1, e2, show (0 : EReal) - ((((f : ℤ) - 127 : ℤ) : ℝ) : EReal) = ((((127 - f : ℤ)) : ℝ) : EReal) from by
      rw [← EReal.coe_zero, ← EReal.coe_sub]; congr 1; push_cast; ring,
    exp2_int, show IntOp.subi 127#32 (BitVec.ofNat 32 f - 127#32) = BitVec.ofNat 32 (254 - f) from by
      show _ - _ = _
      apply BitVec.eq_of_toNat_eq
      simp only [BitVec.toNat_sub, BitVec.toNat_ofNat]
      omega,
    pow_bits (254 - f) (by omega) (by omega)]
  rw [show ((254 - f : ℕ) : ℤ) - 127 = 127 - f from by omega]

end Cert.Attn

end
-- ==== Proof.RefPayloads.lean ====
/-
  What the reference computes at each entry: attention row by row, and the exponent, the scale and the codes of a row.
-/
module

public import proofs.«01_k».proof.Proof.Result
public import proofs.«01_k».proof.Proof.Exponent
public import proofs.«01_k».proof.Proof.Gen.ReferenceIdeal.Skeleton
public import Idealize.ShloMosaic.Lib.Pointwise
public import Idealize.ShloMosaic.Lib.WordCmp

@[expose] public section

set_option maxRecDepth 16384

noncomputable section

namespace Cert.ReferenceIdeal.Val

open Idealize.ShloMosaic Cert.ReferenceIdeal Cert.ReferenceIdeal.Gen Cert.Attn

theorem at3_val {n0 n1 n2 : ℕ} (x : (⟨3, ![n0, n1, n2]⟩ : Shape).Idx → EReal) (a : Fin n0) (b : Fin n1) (c : Fin n2) :
    x (ix3 a b c) = at3 x a b c := rd3 x a b c

theorem named_scale : Named.named (F := Ideal) (φ := .f32) κ "sm_scale" 1035273459#32 = cS :=
  IdealRules.named_const.ideal_named_scalar _ _ _ _ rfl

theorem named_ln2 : Named.named (F := Ideal) (φ := .f32) κ "ln2" 1060205080#32 = ((Real.log 2 : ℝ) : EReal) :=
  IdealRules.named_const.ideal_named_scalar _ _ _ _ rfl

/-- A comparison of two positions below the width selects by their order. -/
theorem sel_causal (q j : Fin 8192) (a b : EReal) :
    Scalar.select (IntOp.cmpi CmpIPredicate.sge (BitVec.ofNat 32 (q : ℕ)) (BitVec.ofNat 32 (j : ℕ))) a b
      = if (j : ℕ) ≤ (q : ℕ) then a else b := by
  have hq := q.isLt
  have hj := j.isLt
  rw [WordCmp.cmpi_sge_ofNat (by omega) (by omega), WordCmp.select_ofBool]
  by_cases h : (j : ℕ) ≤ (q : ℕ)
  · rw [if_pos h, decide_eq_true h]; rfl
  · rw [if_neg h, decide_eq_false h]; rfl

theorem pay4_at (v : Vec Ideal S8x8192x256 .fp8e4m3) (n : Fin 128) (j : Fin 8192) (d : Fin 128) :
    k0_pay4 (F := Ideal) v (ix3 n j d) = at3 v (n / 16) j (n / 8 % 2 * 128 + d) := by
  pointwise [k0_pay4]
  exact at3_val v _ _ _

theorem pay5_at (v : Vec Ideal S8x8192x2 .f32) (n : Fin 128) (j : Fin 8192) :
    k0_pay5 (F := Ideal) v (ix2 n j) = at3 v (n / 16) j (n / 8 % 2) := by
  pointwise [k0_pay5]
  exact at3_val v _ _ _

theorem pay6_at (x : Vec Ideal S8x8192x2048 .fp8e4m3) (k : Vec Ideal S8x8192x256 .fp8e4m3) (xs : Vec Ideal S8x8192x16 .f32)
    (n : Fin 128) (q j : Fin 8192) :
    k0_pay6 (F := Ideal) x k xs (ix3 n q j)
      = (∑ d : Fin 128, at3 x (n / 16) q (n % 16 * 128 + d) * at3 k (n / 16) j (n / 8 % 2 * 128 + d)) * at3 xs (n / 16) q (n % 16) := by
  pointwise [k0_pay6]
  simp only [at3_val x, at3_val k, at3_val xs]

theorem pay7_at (v : Vec Ideal S8x8192x2 .f32) (n : Fin 128) (j : Fin 8192) :
    k0_pay7 (F := Ideal) v (ix3 n 0 j) = at3 v (n / 16) j (n / 8 % 2) := by
  pointwise [k0_pay7]
  exact at3_val v _ _ _

/-- The reference's attention output over its four intermediate arrays. -/
theorem pay8_at (v20 : FVec Ideal S128x8192x128 .f32) (v35 : FVec Ideal S128x8192 .f32) (v39 : FVec Ideal S128x8192x8192 .f32) (v40 : FVec Ideal S128x1x8192 .f32) (S : ℕ → EReal) (b : Fin 8) (q : Fin 8192) (c : Fin 2048)
    (hS : ∀ (h : (b : ℕ) * 16 + (c : ℕ) / 128 < 128) (j : Fin 8192), (if (j : ℕ) ≤ (q : ℕ) then v39 (ix3 ⟨(b : ℕ) * 16 + (c : ℕ) / 128, h⟩ q j)
      * v40 (ix3 ⟨(b : ℕ) * 16 + (c : ℕ) / 128, h⟩ 0 j) * cS else ⊥) = S j) (VSj Vj : ℕ → EReal)
    (hvs : ∀ (h : (b : ℕ) * 16 + (c : ℕ) / 128 < 128) (j : Fin 8192), v35 (ix2 ⟨(b : ℕ) * 16 + (c : ℕ) / 128, h⟩ j) = VSj j)
    (hv : ∀ (h : (b : ℕ) * 16 + (c : ℕ) / 128 < 128) (h' : (c : ℕ) % 128 < 128) (j : Fin 8192), v20 (ix3 ⟨(b : ℕ) * 16 + (c : ℕ) / 128, h⟩ j ⟨(c : ℕ) % 128, h'⟩) = Vj j) :
    k0_pay8 (F := Ideal) v20 v35 v39 v40 (ix3 b q c)
      = ∑ j ∈ Finset.range 8192, Ideal.exp (S j - (Finset.range 8192).sup S)
          * Ideal.div 1 (∑ j ∈ Finset.range 8192, Ideal.exp (S j - (Finset.range 8192).sup S)) * VSj j * Vj j := by
  pointwise [k0_pay8]
  simp only [sel_causal, named_scale, bits_neg_inf, hS, hvs, hv]
  rw [fold_max_range 8192 _ S fun _ => rfl, sum_fin_range 8192 _ (fun j => Ideal.exp (S j - (Finset.range 8192).sup S)) fun _ => rfl]
  exact sum_fin_range 8192 _ _ fun _ => rfl

/-- The reference's attention output is the attention's. -/
theorem out_at (x : Vec Ideal S8x8192x2048 .fp8e4m3) (xs : Vec Ideal S8x8192x16 .f32) (k : Vec Ideal S8x8192x256 .fp8e4m3) (ks : Vec Ideal S8x8192x2 .f32) (v : Vec Ideal S8x8192x256 .fp8e4m3) (vs : Vec Ideal S8x8192x2 .f32) (b : Fin 8) (q : Fin 8192) (c : Fin 2048) :
    k0_pay8 (F := Ideal) (k0_pay4 v) (k0_pay5 vs) (k0_pay6 x k xs) (k0_pay7 ks) (ix3 b q c)
      = att (at3 x) (at3 xs) (at3 k) (at3 ks) (at3 v) (at3 vs) b q c := by
  have hb := b.isLt
  have hc := c.isLt
  have e1 : ((b : ℕ) * 16 + (c : ℕ) / 128) / 16 = b := by omega
  have e2 : ((b : ℕ) * 16 + (c : ℕ) / 128) % 16 = (c : ℕ) / 128 := by omega
  have e3 : ((b : ℕ) * 16 + (c : ℕ) / 128) / 8 % 2 = (c : ℕ) / 128 / 8 := by omega
  refine (pay8_at _ _ _ _ (score (at3 x) (at3 xs) (at3 k) (at3 ks) b ((c : ℕ) / 128) q) b q c (fun h j => ?_) (fun j => at3 vs b j ((c : ℕ) / 128 / 8))
    (fun j => at3 v b j (128 * ((c : ℕ) / 128 / 8) + (c : ℕ) % 128)) (fun h j => ?_) (fun h h' j => ?_)).trans ?_
  · rw [pay6_at, pay7_at]
    unfold score
    dsimp only
    rw [e1, e2, e3, Nat.mul_comm ((c : ℕ) / 128) 128, Nat.mul_comm ((c : ℕ) / 128 / 8) 128]
  · rw [pay5_at]; dsimp only; rw [e1, e3]
  · rw [pay4_at]; dsimp only; rw [e1, e3, Nat.mul_comm ((c : ℕ) / 128 / 8) 128]
  · unfold att wsum wgt smax
    rfl

/-- The largest magnitude of each row. -/
def rowMax (v72 : FVec Ideal S8x8192x2048 .f32) : FVec Ideal S8x8192x1 .f32 :=
  have v73 : FVec Ideal S8x8192x2048 .f32 := absf v72
  have v74 : FVec Ideal S8x8192 .f32 := multiReduction .maximumf [2] S8x8192 v73 0xFF800000#32 reduces_S8x8192x2048_S8x8192 (.inl rfl) rfl
  have v75 : FVec Ideal S8x8192x1 .f32 := shapeCast S8x8192x1 v74 shapeCasts_S8x8192_S8x8192x1
  v75

/-- The clipped exponent of each row. -/
def rowExp (v75 : FVec Ideal S8x8192x1 .f32) : FVec Ideal S8x8192x1 .f32 :=
  have cst_24 : Ideal .f32 := Scalar.ofBits .f32 0x3B124925#32
  have v76 : FVec Ideal S8x8192x1 .f32 := broadcast S8x8192x1 cst_24
  have v77 : FVec Ideal S8x8192x1 .f32 := mulf v75 v76
  have v78 : FVec Ideal S8x8192x1 .f32 := log v77
  have cst_25 : Ideal .f32 := Named.named κ "ln2" 0x3F317218#32
  have v79 : FVec Ideal S8x8192x1 .f32 := broadcast S8x8192x1 cst_25
  have v80 : FVec Ideal S8x8192x1 .f32 := divf v78 v79
  have v81 : FVec Ideal S8x8192x1 .f32 := floor v80
  have cst_26 : Ideal .f32 := Scalar.ofBits .f32 0x3F800000#32
  have v82 : FVec Ideal S8x8192x1 .f32 := broadcast S8x8192x1 cst_26
  have v83 : FVec Ideal S8x8192x1 .f32 := addf v81 v82
  have cst_27 : Ideal .f32 := Scalar.ofBits .f32 0xC2FC0000#32
  have cst_28 : Ideal .f32 := Scalar.ofBits .f32 0x42F00000#32
  have v84 : FVec Ideal S8x8192x1 .f32 := broadcast S8x8192x1 cst_27
  have v85 : FVec Ideal S8x8192x1 .f32 := maximumf v84 v83
  have v86 : FVec Ideal S8x8192x1 .f32 := broadcast S8x8192x1 cst_28
  have v87 : FVec Ideal S8x8192x1 .f32 := minimumf v86 v85
  v87

theorem pay9_eq (v20 : FVec Ideal S128x8192x128 .f32) (v35 : FVec Ideal S128x8192 .f32) (v39 : FVec Ideal S128x8192x8192 .f32) (v40 : FVec Ideal S128x1x8192 .f32) : k0_pay9 (F := Ideal) v20 v35 v39 v40 = rowMax (k0_pay8 v20 v35 v39 v40) := rfl

theorem pay10_eq (v20 : FVec Ideal S128x8192x128 .f32) (v35 : FVec Ideal S128x8192 .f32) (v39 : FVec Ideal S128x8192x8192 .f32) (v40 : FVec Ideal S128x1x8192 .f32) : k0_pay10 (F := Ideal) v20 v35 v39 v40 = rowExp (k0_pay9 v20 v35 v39 v40) := rfl

theorem rowMax_at (v72 : FVec Ideal S8x8192x2048 .f32) (o : ℕ → EReal) (b : Fin 8) (q : Fin 8192)
    (ho : ∀ c : Fin 2048, v72 (ix3 b q c) = o c) : rowMax v72 (ix3 b q 0) = amax o := by
  have hm : Finset.fold max (Ideal.ofBits .f32 4286578688#32) (fun x : Fin 2048 => FloatOps.absf (F := Ideal) (φ := .f32) (v72 (ix3 b q x)))
      Finset.univ = amax o := by
    rw [bits_neg_inf]
    exact fold_max_range 2048 _ _ fun c => by rw [ho c]; rfl
  pointwise [rowMax]
  exact hm

theorem bits_120 : Ideal.ofBits .f32 1123024896#32 = ((120 : ℝ) : EReal) := by
  rw [ofBits_f32, ieee_normal _ 133 7340032 (by omega) (by omega) (by decide) (by decide) (by decide)]
  norm_num

theorem bits_neg126 : Ideal.ofBits .f32 3271294976#32 = ((-126 : ℝ) : EReal) := by
  simp [Ideal.ofBits, Ideal.ieee]
  rw [← EReal.coe_mul]
  norm_num

theorem rowExp_at (v75 : FVec Ideal S8x8192x1 .f32) (b : Fin 8) (q : Fin 8192) :
    rowExp v75 (ix3 b q 0) = flr (v75 (ix3 b q 0) * cR) := by
  pointwise [rowExp]
  rw [named_ln2, bits_120, bits_neg126]
  rfl

theorem pay2_at (v72 : FVec Ideal S8x8192x2048 .f32) (v75 v87 : FVec Ideal S8x8192x1 .f32) (b : Fin 8) (q : Fin 8192) (c : Fin 2048) :
    k0_pay2 (F := Ideal) v72 v75 v87 (Scalar.ofBits .f32 0x00000000#32) (ix3 b q c)
      = min (Ideal.ofBits .f32 1138753536#32) (max (Ideal.ofBits .f32 3286237184#32)
        (v72 (ix3 b q c) * Ideal.exp2 (0 - if v75 (ix3 b q 0) = 0 then 0 else v87 (ix3 b q 0)))) := by
  pointwise [k0_pay2, k0_pay1]
  rfl

theorem pay3_at (v75 v87 : FVec Ideal S8x8192x1 .f32) (b : Fin 8) (q : Fin 8192) :
    k0_pay3 (F := Ideal) v75 v87 (Scalar.ofBits .f32 0x00000000#32) (ix3 b 0 q)
      = Ideal.exp2 (if v75 (ix3 b q 0) = 0 then 0 else v87 (ix3 b q 0)) := by
  pointwise [k0_pay3, k0_pay1]
  rfl

/-- The reference's codes. -/
theorem codes_at (v20 : FVec Ideal S128x8192x128 .f32) (v35 : FVec Ideal S128x8192 .f32) (v39 : FVec Ideal S128x8192x8192 .f32) (v40 : FVec Ideal S128x1x8192 .f32)
    (o : ℕ → EReal) (b : Fin 8) (q : Fin 8192) (c : Fin 2048)
    (ho : ∀ c : Fin 2048, k0_pay8 (F := Ideal) v20 v35 v39 v40 (ix3 b q c) = o c) :
    k0_pay2 (F := Ideal) (k0_pay8 v20 v35 v39 v40) (k0_pay9 v20 v35 v39 v40) (k0_pay10 v20 v35 v39 v40) (Scalar.ofBits .f32 0x00000000#32) (ix3 b q c)
      = code o c := by
  rw [pay2_at, pay10_eq, rowExp_at, pay9_eq, rowMax_at _ o b q ho, ho c, code_eq]
  rfl

/-- The reference's scales. -/
theorem scales_at (v20 : FVec Ideal S128x8192x128 .f32) (v35 : FVec Ideal S128x8192 .f32) (v39 : FVec Ideal S128x8192x8192 .f32) (v40 : FVec Ideal S128x1x8192 .f32)
    (o : ℕ → EReal) (b : Fin 8) (q : Fin 8192)
    (ho : ∀ c : Fin 2048, k0_pay8 (F := Ideal) v20 v35 v39 v40 (ix3 b q c) = o c) :
    k0_pay3 (F := Ideal) (k0_pay9 v20 v35 v39 v40) (k0_pay10 v20 v35 v39 v40) (Scalar.ofBits .f32 0x00000000#32) (ix3 b 0 q)
      = scl o := by
  rw [pay3_at, pay10_eq, rowExp_at, pay9_eq, rowMax_at _ o b q ho, scl_eq]
  rfl

end Cert.ReferenceIdeal.Val

end
-- ==== Proof.RefValue.lean ====
/-
  The reference's two results are the result arrays.
-/
module

public import proofs.«01_k».proof.Proof.RefPayloads
public import proofs.«01_k».proof.Proof.Gen.ReferenceIdeal.Value

@[expose] public section

set_option maxRecDepth 16384

noncomputable section

namespace Cert.ReferenceIdeal.Val

open Idealize.ShloMosaic Cert.ReferenceIdeal Cert.ReferenceIdeal.Gen Cert.Attn

variable (x : Vec Ideal S8x8192x2048 .fp8e4m3) (xs : Vec Ideal S8x8192x16 .f32) (k : Vec Ideal S8x8192x256 .fp8e4m3)
  (ks : Vec Ideal S8x8192x2 .f32) (v : Vec Ideal S8x8192x256 .fp8e4m3) (vs : Vec Ideal S8x8192x2 .f32)

theorem zeros : (![0, 0, 0] : Fin 3 → ℕ) = fun _ => 0 := funext fun a => match a with | 0 => rfl | 1 => rfl | 2 => rfl

theorem pay11_eq : k0_pay11 (F := Ideal) x xs k ks v vs = k0_pay4 v :=
  congrArg k0_pay4 (View.ld_unit_zero zeros _ v)

theorem pay12_eq : k0_pay12 (F := Ideal) x xs k ks v vs = k0_pay5 vs :=
  congrArg k0_pay5 (View.ld_unit_zero zeros _ vs)

theorem pay13_eq : k0_pay13 (F := Ideal) x xs k ks v vs = k0_pay6 x k xs := by
  unfold k0_pay13
  rw [View.ld_unit_zero zeros _ x, View.ld_unit_zero zeros _ k, View.ld_unit_zero zeros _ xs]

theorem pay14_eq : k0_pay14 (F := Ideal) x xs k ks v vs = k0_pay7 ks :=
  congrArg k0_pay7 (View.ld_unit_zero zeros _ ks)

theorem G6_eq : Value.G6 (F := Ideal) x xs k ks v vs = resC x xs k ks v vs := by
  unfold Value.G6 k0_pay15 k0_pay16
  rw [pay11_eq, pay12_eq, pay13_eq, pay14_eq]
  funext i
  obtain ⟨b, q, c, rfl⟩ : ∃ (b : Fin 8) (q : Fin 8192) (c : Fin 2048), i = ix3 b q c :=
    ⟨i 0, i 1, i 2, funext fun a => match a with | 0 => rfl | 1 => rfl | 2 => rfl⟩
  exact codes_at _ _ _ _ (attRow x xs k ks v vs b q) b q c fun c => out_at x xs k ks v vs b q c

theorem G7_eq : Value.G7 (F := Ideal) x xs k ks v vs = resS x xs k ks v vs := by
  unfold Value.G7 k0_pay15 k0_pay16
  rw [pay11_eq, pay12_eq, pay13_eq, pay14_eq]
  funext i
  obtain ⟨b, q, rfl⟩ : ∃ (b : Fin 8) (q : Fin 8192), i = ix3 b 0 q :=
    ⟨i 0, i 2, funext fun a => match a with | 0 => rfl | 1 => Subsingleton.elim (α := Fin 1) _ _ | 2 => rfl⟩
  exact scales_at _ _ _ _ (attRow x xs k ks v vs b q) b q fun c => out_at x xs k ks v vs b q c

end Cert.ReferenceIdeal.Val

end
-- ==== Proof.lean ====
/-
  The certificate's claim, assembled: the three frames, the named constants, and the equality of the results.
-/
module

public import proofs.«01_k».proof.Defs
public import proofs.«01_k».proof.Proof.KernelFrame
public import proofs.«01_k».proof.Proof.KernelIdealFrame
public import proofs.«01_k».proof.Proof.KernelValue
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic

/-- The two named constants of the kernel carry the values the table gives them. -/
theorem preserves : Cert.preserves_Kernel_KernelIdeal :=
  ⟨IdealRules.named_const.statement Cert.KernelIdeal.κ "sm_log2" .f32 0x3E0293EE#32 _ rfl,
    IdealRules.named_const.statement Cert.KernelIdeal.κ "neg" .f32 0xF149F2CA#32 _ rfl⟩

/-- From memories agreeing on the arguments, the kernel and the reference end with the same codes and the same scales. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨Cert.KernelIdeal.Val.codes m, Cert.KernelIdeal.Val.scales m, Cert.KernelIdeal.Val.run m g, ?_⟩
  refine (θ_run _ _ _).mono (fun r h c => ?_) (Cert.ReferenceIdeal.Value.run (F := Ideal) m' g')
  obtain ⟨hC, hS, hargs⟩ := h c
  obtain ⟨e0, e1, e2, e3, e4, e5⟩ := hag c
  refine ⟨hC.trans ?_, hS.trans ?_, hargs⟩
  · rw [e0, e1, e2, e3, e4, e5]
    exact Cert.ReferenceIdeal.Val.G6_eq _ _ _ _ _ _
  · rw [e0, e1, e2, e3, e4, e5]
    exact Cert.ReferenceIdeal.Val.G7_eq _ _ _ _ _ _

theorem claim : Cert.Claim :=
  ⟨Cert.Kernel.Gen.facts, Cert.KernelIdeal.Gen.facts, Cert.ReferenceIdeal.Gen.facts,
    fun m ρ _ => Cert.Kernel.Hand.frame_run m ρ,
    fun m ρ _ => Cert.KernelIdeal.Hand.frame_run m ρ,
    fun m ρ _ => Cert.ReferenceIdeal.Gen.frame m ρ,
    preserves, algebraic⟩

end Cert.Proof

end
